-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S3x512x512 : Shape := ⟨3, ![3, 512, 512]⟩
abbrev S3x2 : Shape := ⟨2, ![3, 2]⟩
abbrev S_ : Shape := ⟨0, ![]⟩
abbrev S1x1 : Shape := ⟨2, ![1, 1]⟩
abbrev S1x256x512 : Shape := ⟨3, ![1, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S4096x512, .f32⟩
  | .local _ .vmem, ⟨0, _⟩ => ⟨S1024x512, .f32⟩
  | .local _ .vmem, ⟨1, _⟩ => ⟨S4096x512, .f32⟩
  | .local _ .vmem, ⟨2, _⟩ => ⟨S3x512x512, .f32⟩
  | .local _ .vmem, ⟨3, _⟩ => ⟨S3x512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v30 : BitVec 32 := Scalar.muli v24 c1_i32_24
  let v31 : BitVec 32 := Scalar.addi c0_i32_25 v30
  v31.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v39 : BitVec 32 := Scalar.muli v13 c1_i32_35
  let v40 : BitVec 32 := Scalar.addi c0_i32_36 v39
  v40.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_45 : BitVec 32 := 1#32
  let v48 : BitVec 32 := Scalar.muli v24 c1_i32_45
  let v49 : BitVec 32 := Scalar.addi c0_i32_46 v48
  v49.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_55 : BitVec 32 := 1#32
  let v57 : BitVec 32 := Scalar.muli v13 c1_i32_55
  let v58 : BitVec 32 := Scalar.addi c0_i32_56 v57
  v58.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v68 : BitVec 32 := Scalar.muli v2 c1024_i32
  let v69 : Index := Scalar.indexCast v68
  let c0_61 : Index := 0#32
  ![v69.toNat, 0]
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v85 : BitVec 32 := Scalar.muli v24 c1_i32_90
  let v86 : BitVec 32 := Scalar.addi c0_i32_91 v85
  v86.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_102 : BitVec 32 := 1#32
  let v95 : BitVec 32 := Scalar.muli v13 c1_i32_102
  let v96 : BitVec 32 := Scalar.addi c0_i32_103 v95
  v96.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_136 : BitVec 32 := 1#32
  let v119 : BitVec 32 := Scalar.muli v24 c1_i32_136
  let v120 : BitVec 32 := Scalar.addi c0_i32_137 v119
  v120.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_148 : BitVec 32 := 1#32
  let v129 : BitVec 32 := Scalar.muli v13 c1_i32_148
  let v130 : BitVec 32 := Scalar.addi c0_i32_149 v129
  v130.toNat
def k0_off2 (d0 : Dev nD) (c0_i32_154 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.subi v2 c0_i32_154
  let c1_i32_155 : BitVec 32 := 1#32
  let v140 : BitVec 32 := Scalar.subi v139 c1_i32_155
  let c4_i32_156 : BitVec 32 := 4#32
  let c0_i32_157 : BitVec 32 := 0#32
  let v141 : BitVec 1 := Scalar.cmpi .eq c4_i32_156 c0_i32_157
  let c1_i32_158 : BitVec 32 := 1#32
  let v142 : BitVec 32 := Scalar.select v141 c1_i32_158 c4_i32_156
  let v143 : BitVec 32 := Scalar.remsi v140 v142
  let c0_i32_160 : BitVec 32 := 0#32
  let v145 : BitVec 1 := Scalar.cmpi .slt v143 c0_i32_160
  let c0_i32_161 : BitVec 32 := 0#32
  let v146 : BitVec 1 := Scalar.cmpi .slt v142 c0_i32_161
  let v147 : BitVec 1 := Scalar.xori v145 v146
  let c0_i32_159 : BitVec 32 := 0#32
  let v144 : BitVec 1 := Scalar.cmpi .ne v143 c0_i32_159
  let v148 : BitVec 1 := Scalar.andi v147 v144
  let v149 : BitVec 32 := Scalar.addi v143 v142
  let v150 : BitVec 32 := Scalar.select v148 v149 v143
  let c1024_i32_173 : BitVec 32 := 1024#32
  let v165 : BitVec 32 := Scalar.muli v150 c1024_i32_173
  let v166 : Index := Scalar.indexCast v165
  let c0_174 : Index := 0#32
  ![v166.toNat, 0]
def k0_off3 (d0 : Dev nD) (c0_i32_162 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v151 : BitVec 32 := Scalar.addi v2 c0_i32_162
  let c1_i32_163 : BitVec 32 := 1#32
  let v152 : BitVec 32 := Scalar.addi v151 c1_i32_163
  let c4_i32_164 : BitVec 32 := 4#32
  let c0_i32_165 : BitVec 32 := 0#32
  let v153 : BitVec 1 := Scalar.cmpi .eq c4_i32_164 c0_i32_165
  let c1_i32_166 : BitVec 32 := 1#32
  let v154 : BitVec 32 := Scalar.select v153 c1_i32_166 c4_i32_164
  let v155 : BitVec 32 := Scalar.remsi v152 v154
  let c0_i32_168 : BitVec 32 := 0#32
  let v157 : BitVec 1 := Scalar.cmpi .slt v155 c0_i32_168
  let c0_i32_169 : BitVec 32 := 0#32
  let v158 : BitVec 1 := Scalar.cmpi .slt v154 c0_i32_169
  let v159 : BitVec 1 := Scalar.xori v157 v158
  let c0_i32_167 : BitVec 32 := 0#32
  let v156 : BitVec 1 := Scalar.cmpi .ne v155 c0_i32_167
  let v160 : BitVec 1 := Scalar.andi v159 v156
  let v161 : BitVec 32 := Scalar.addi v155 v154
  let v162 : BitVec 32 := Scalar.select v160 v161 v155
  let c1024_i32_178 : BitVec 32 := 1024#32
  let v170 : BitVec 32 := Scalar.muli v162 c1024_i32_178
  let c512_i32_179 : BitVec 32 := 512#32
  let v171 : BitVec 32 := Scalar.addi v170 c512_i32_179
  let v172 : Index := Scalar.indexCast v171
  let c0_180 : Index := 0#32
  ![v172.toNat, 0]
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_211 : BitVec 32 := 1#32
  let v190 : BitVec 32 := Scalar.muli v24 c1_i32_211
  let v191 : BitVec 32 := Scalar.addi c0_i32_212 v190
  v191.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_223 : BitVec 32 := 1#32
  let v200 : BitVec 32 := Scalar.muli v13 c1_i32_223
  let v201 : BitVec 32 := Scalar.addi c0_i32_224 v200
  v201.toNat
def k0_dev13 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_259 : BitVec 32 := 1#32
  let v226 : BitVec 32 := Scalar.muli v24 c1_i32_259
  let v227 : BitVec 32 := Scalar.addi c0_i32_260 v226
  v227.toNat
def k0_dev14 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_271 : BitVec 32 := 1#32
  let v236 : BitVec 32 := Scalar.muli v13 c1_i32_271
  let v237 : BitVec 32 := Scalar.addi c0_i32_272 v236
  v237.toNat
def k0_off4 (d0 : Dev nD) (c0_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v281 : BitVec 32 := Scalar.subi v2 c3_i32
  let c4_i32_303 : BitVec 32 := 4#32
  let c0_i32_304 : BitVec 32 := 0#32
  let v282 : BitVec 1 := Scalar.cmpi .eq c4_i32_303 c0_i32_304
  let c1_i32_305 : BitVec 32 := 1#32
  let v283 : BitVec 32 := Scalar.select v282 c1_i32_305 c4_i32_303
  let v284 : BitVec 32 := Scalar.remsi v281 v283
  let c0_i32_307 : BitVec 32 := 0#32
  let v286 : BitVec 1 := Scalar.cmpi .slt v284 c0_i32_307
  let c0_i32_308 : BitVec 32 := 0#32
  let v287 : BitVec 1 := Scalar.cmpi .slt v283 c0_i32_308
  let v288 : BitVec 1 := Scalar.xori v286 v287
  let c0_i32_306 : BitVec 32 := 0#32
  let v285 : BitVec 1 := Scalar.cmpi .ne v284 c0_i32_306
  let v289 : BitVec 1 := Scalar.andi v288 v285
  let v290 : BitVec 32 := Scalar.addi v284 v283
  let v291 : BitVec 32 := Scalar.select v289 v290 v284
  let c1024_i32_342 : BitVec 32 := 1024#32
  let v321 : BitVec 32 := Scalar.muli v291 c1024_i32_342
  let v322 : BitVec 32 := Scalar.addi v321 c0_i32_343
  let v323 : Index := Scalar.indexCast v322
  let c0_344 : Index := 0#32
  ![v323.toNat, 0]
def k0_off5 (d0 : Dev nD) (c0_i32_350 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_309 : BitVec 32 := 3#32
  let v292 : BitVec 32 := Scalar.addi v2 c3_i32_309
  let c4_i32_310 : BitVec 32 := 4#32
  let c0_i32_311 : BitVec 32 := 0#32
  let v293 : BitVec 1 := Scalar.cmpi .eq c4_i32_310 c0_i32_311
  let c1_i32_312 : BitVec 32 := 1#32
  let v294 : BitVec 32 := Scalar.select v293 c1_i32_312 c4_i32_310
  let v295 : BitVec 32 := Scalar.remsi v292 v294
  let c0_i32_314 : BitVec 32 := 0#32
  let v297 : BitVec 1 := Scalar.cmpi .slt v295 c0_i32_314
  let c0_i32_315 : BitVec 32 := 0#32
  let v298 : BitVec 1 := Scalar.cmpi .slt v294 c0_i32_315
  let v299 : BitVec 1 := Scalar.xori v297 v298
  let c0_i32_313 : BitVec 32 := 0#32
  let v296 : BitVec 1 := Scalar.cmpi .ne v295 c0_i32_313
  let v300 : BitVec 1 := Scalar.andi v299 v296
  let v301 : BitVec 32 := Scalar.addi v295 v294
  let v302 : BitVec 32 := Scalar.select v300 v301 v295
  let c1024_i32_348 : BitVec 32 := 1024#32
  let v327 : BitVec 32 := Scalar.muli v302 c1024_i32_348
  let c512_i32_349 : BitVec 32 := 512#32
  let v328 : BitVec 32 := Scalar.addi v327 c512_i32_349
  let v329 : BitVec 32 := Scalar.addi v328 c0_i32_350
  let v330 : Index := Scalar.indexCast v329
  let c0_351 : Index := 0#32
  ![v330.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ring.lean ====
/-
# The ring, its transfers and what they carry

Four devices stand in a ring. Each holds 1024 rows of the gathered array; the upper 512 travel clockwise, the lower
512 the other way, in two segments of 256 rows and over three hops. A transfer is named by its direction, its hop and
its segment (`Slot`). This file fixes, for every transfer at once, the device it goes to, the memref it reads, the
memref it fills, its two semaphores, and the rows it carries.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gathered

open Cert.KernelIdeal Cert.KernelIdeal.Gen
open Idealize.ShloMosaic Idealize.ShloMosaic.TcCoe

/-! ## Devices -/

/-- The neighbour that direction `d` sends to: one further on for `true` (clockwise), one back for `false`. -/
def onto (d : Bool) (c : Dev nD) : Dev nD := ⟨(c.val + if d then 1 else 3) % 4, Nat.mod_lt _ (by decide)⟩

/-- Going one way and then the other returns. -/
theorem onto_back (d : Bool) (c : Dev nD) : onto d (onto (!d) c) = c := by revert d c; decide
/-- Going the other way first returns as well. -/
theorem back_onto (d : Bool) (c : Dev nD) : onto (!d) (onto d c) = c := by revert d c; decide

/-- Direction `d` as a permutation of the ring. -/
def turn (d : Bool) : Dev nD ≃ Dev nD := ⟨onto d, onto (!d), back_onto d, onto_back d⟩

/-- The first row, in the gathered array, of the half block that has travelled `h` hops in direction `d` when it is at
    device `c`: the upper half of the block of the device `h` places back, or the lower half of the one `h` ahead. -/
def base (d : Bool) (h : ℕ) (c : Dev nD) : ℕ := 1024 * ((c.val + if d then 4 - h else h) % 4) + if d then 0 else 512

/-- A half block keeps its rows as it moves on. -/
theorem base_onto : ∀ (d : Bool) (h : Fin 3) (c : Dev nD), base d (h.val + 1) (onto d c) = base d h.val c := by decide

/-- A half block lies inside the array. -/
theorem base_le (d : Bool) (h : ℕ) (c : Dev nD) : base d h c + 512 ≤ 4096 := by
  unfold base; split <;> omega

/-- The printed device numbers: the barrier signals go back and forward, the transfers by their direction. -/
theorem dev1_eq : ∀ c : Dev nD, (⟨k0_dev1 c, k0_dev1_lt c⟩ : Dev nD) = onto false c := by decide +kernel
theorem dev2_eq : ∀ c : Dev nD, (⟨k0_dev2 c, k0_dev2_lt c⟩ : Dev nD) = onto true c := by decide +kernel
theorem dev3_eq : ∀ c : Dev nD, (⟨k0_dev3 c, k0_dev3_lt c⟩ : Dev nD) = onto true c := by decide +kernel
theorem dev4_eq : ∀ c : Dev nD, (⟨k0_dev4 c, k0_dev4_lt c⟩ : Dev nD) = onto false c := by decide +kernel
theorem dev5_eq : ∀ c : Dev nD, (⟨k0_dev5 c, k0_dev5_lt c⟩ : Dev nD) = onto true c := by decide +kernel
theorem dev6_eq : ∀ c : Dev nD, (⟨k0_dev6 c, k0_dev6_lt c⟩ : Dev nD) = onto false c := by decide +kernel
theorem dev7_eq : ∀ c : Dev nD, (⟨k0_dev7 c, k0_dev7_lt c⟩ : Dev nD) = onto true c := by decide +kernel
theorem dev8_eq : ∀ c : Dev nD, (⟨k0_dev8 c, k0_dev8_lt c⟩ : Dev nD) = onto false c := by decide +kernel
theorem dev9_eq : ∀ c : Dev nD, (⟨k0_dev9 c, k0_dev9_lt c⟩ : Dev nD) = onto true c := by decide +kernel
theorem dev10_eq : ∀ c : Dev nD, (⟨k0_dev10 c, k0_dev10_lt c⟩ : Dev nD) = onto false c := by decide +kernel
theorem dev11_eq : ∀ c : Dev nD, (⟨k0_dev11 c, k0_dev11_lt c⟩ : Dev nD) = onto true c := by decide +kernel
theorem dev12_eq : ∀ c : Dev nD, (⟨k0_dev12 c, k0_dev12_lt c⟩ : Dev nD) = onto false c := by decide +kernel
theorem dev13_eq : ∀ c : Dev nD, (⟨k0_dev13 c, k0_dev13_lt c⟩ : Dev nD) = onto true c := by decide +kernel
theorem dev14_eq : ∀ c : Dev nD, (⟨k0_dev14 c, k0_dev14_lt c⟩ : Dev nD) = onto false c := by decide +kernel

/-- The printed row offsets of the stores: the own block, -/
theorem off1_eq (c : Dev nD) : k0_off1 c = ![base true 0 c, 0] := by revert c; decide +kernel
/-- a half block that came clockwise over one or two hops, -/
theorem off2_eq : ∀ (c : Dev nD) (h : Fin 2), k0_off2 c (BitVec.ofNat 32 h.val) = ![base true (h.val + 1) c, 0] := by decide +kernel
/-- one that came the other way, -/
theorem off3_eq : ∀ (c : Dev nD) (h : Fin 2), k0_off3 c (BitVec.ofNat 32 h.val) = ![base false (h.val + 1) c, 0] := by decide +kernel
/-- and a segment of one that came over three hops, either way. -/
theorem off4_eq : ∀ (c : Dev nD) (s : Fin 2), k0_off4 c (BitVec.ofNat 32 (256 * s.val)) = ![base true 3 c + 256 * s.val, 0] := by decide +kernel
theorem off5_eq : ∀ (c : Dev nD) (s : Fin 2), k0_off5 c (BitVec.ofNat 32 (256 * s.val)) = ![base false 3 c + 256 * s.val, 0] := by decide +kernel

/-! ## Transfers -/

/-- A transfer's name: direction, hop, segment. -/
abbrev Slot : Type := Bool × Fin 3 × Fin 2

theorem inb_slot (h : Fin 3) (s : Fin 2) : ∀ a, (![h.val, 256 * s.val, 0] : Fin 3 → Nat) a + S1x256x512.size a ≤ S3x512x512.size a := by
  revert h s; decide
theorem inb_part (d : Bool) (s : Fin 2) : ∀ a, (![(if d then 0 else 512) + 256 * s.val, 0] : Fin 2 → Nat) a + S256x512.size a ≤ S1024x512.size a := by
  revert d s; decide

/-- The landing buffer of a direction. -/
def landM : Bool → Memref sig .tc .vmem S3x512x512 .f32
  | true => Memref.whole cc0_scratch0
  | false => Memref.whole cc0_scratch1

/-- Where a transfer lands: its hop's and segment's 256 rows of its direction's buffer. -/
def dstM : Slot → Memref sig .tc .vmem S256x512 .f32
  | (d, h, s) => ((landM d).slice (Rect.unit (s := S3x512x512) ![h.val, 256 * s.val, 0] S1x256x512.size (inb_slot h s)) (fun _ => rfl)).squeeze
      S256x512 squeezes_S1x256x512_S256x512

/-- What a transfer reads: on the first hop its segment of the device's own block, later the rows that landed a hop before. -/
def srcM : Slot → Memref sig .tc .vmem S256x512 .f32
  | (d, ⟨0, _⟩, s) => (Memref.whole cc0_stg0_0).slice (Rect.unit (s := S1024x512) ![(if d then 0 else 512) + 256 * s.val, 0] S256x512.size (inb_part d s)) (fun _ => rfl)
  | (d, ⟨h + 1, hh⟩, s) => dstM (d, ⟨h, Nat.lt_of_succ_lt hh⟩, s)

/-- A transfer's semaphore: at the sender (`false`) or at the receiver (`true`). -/
def dsem (k : Bool × Slot) : DmaSem sig :=
  ⟨2 + ((if k.2.1 then 0 else 12) + (if k.1 then 6 else 0) + 2 * k.2.2.1.val + k.2.2.2.val), by revert k; decide⟩
theorem dsem_injective : Function.Injective dsem := by decide +kernel

/-- The barrier semaphore. -/
abbrev bsem : Sem sig := (SemArray.scalar (sig.barrier 0 rfl) : Sems sig S_).sem

/-- The semaphores the transfers and the handshake use, together. -/
abbrev Ix : Type := Unit ⊕ Bool × Slot
abbrev semOf : Ix → SemLoc sig
  | .inl _ => .reg bsem
  | .inr k => .dma (dsem k)

abbrev bcell (c : Dev nD) : GSem nD τ sig := ((c : Thread nD τ), .reg bsem)
abbrev dcell (k : Bool × Slot) (c : Dev nD) : GSem nD τ sig := ((c : Thread nD τ), .dma (dsem k))

/-- What a transfer credits its semaphores with. -/
abbrev N : ℕ := (dstM (true, 0, 0)).view.dmaCredit
theorem N_pos : 0 < N := View.dmaCredit_pos _ (by decide)
theorem dst_credit (x : Slot) : (dstM x).view.dmaCredit = N := by
  obtain ⟨d, h, s⟩ := x; cases d <;> rfl
theorem src_credit (x : Slot) : (srcM x).view.dmaCredit = N := by
  obtain ⟨d, ⟨h, hh⟩, s⟩ := x
  cases h with
  | zero => rfl
  | succ h => exact dst_credit _

end Cert.Gathered

end
-- ==== Proof.Rows.lean ====
/-
# The rows a memref covers, and what it reads

Every value moved or stored is a run of consecutive rows of the gathered array (`rowsOf`). This file says which
elements each transfer's memrefs cover, that the segments of a hop, of the own block and of a landing buffer
partition what they should, and which rows the loads and stores read and write.
-/
module

public import proofs.«01_k».proof.Proof.Ring
public import Idealize.ShloMosaic.Lib.Pipeline.Value
public import Idealize.ShloMosaic.Lib.Pipeline.ValueKit

@[expose] public section

noncomputable section

namespace Cert.Gathered

open Cert.KernelIdeal Cert.KernelIdeal.Gen
open Idealize.ShloMosaic Idealize.ShloMosaic.TcCoe

variable {F : FTy → Type} [FloatOps F]

/-! ## Runs of rows -/

/-- The gathered array's element at row `r` (modulo the array's 4096 rows) and column `j`. -/
def spot (r : ℕ) (j : Fin 512) : S4096x512.Idx := Shape.pair (d := ![4096, 512]) ⟨r % 4096, Nat.mod_lt _ (by decide)⟩ j

/-- `n` rows of `G` from row `b` on. -/
def rowsOf (G : S4096x512.Idx → Elt F .f32) (n b : ℕ) : (⟨2, ![n, 512]⟩ : Shape).Idx → Elt F .f32 :=
  fun i => G (spot (b + (i 0).val) (i 1))

/-- An element of the array is at its own row and column. -/
theorem spot_self (i : S4096x512.Idx) : spot (i 0).val (i 1) = i := by
  have h : (⟨(i 0).val % 4096, Nat.mod_lt _ (by decide)⟩ : Fin 4096) = i 0 := Fin.ext (Nat.mod_eq_of_lt (i 0).isLt)
  exact (congrArg (fun r => Shape.pair (d := ![4096, 512]) r (i 1)) h).trans (Shape.pair_eta (d := ![4096, 512]) i)

/-- What `x` sends from device `c`: the segment of the half block that has made `x`'s hop number of hops. -/
def sent (G : S4096x512.Idx → Elt F .f32) (x : Slot) (c : Dev nD) : S256x512.Idx → Elt F .f32 :=
  rowsOf G 256 (base x.1 x.2.1.val c + 256 * x.2.2.val)
/-- What `x` brings to device `c`. -/
def got (G : S4096x512.Idx → Elt F .f32) (x : Slot) (c : Dev nD) : S256x512.Idx → Elt F .f32 :=
  rowsOf G 256 (base x.1 (x.2.1.val + 1) c + 256 * x.2.2.val)

/-- What is sent arrives. -/
theorem got_onto (G : S4096x512.Idx → Elt F .f32) (x : Slot) (c : Dev nD) : got G x (onto x.1 c) = sent G x c := by
  unfold got sent; rw [base_onto]

/-! ## The landing buffers -/

/-- The elements of a landing buffer that a transfer fills, in the buffer's own indices. -/
def slotRect (h : Fin 3) (s : Fin 2) : Rect S3x512x512 := Rect.unit (s := S3x512x512) ![h.val, 256 * s.val, 0] S1x256x512.size (inb_slot h s)

theorem mem_slotRect (h : Fin 3) (s : Fin 2) (i : S3x512x512.Idx) :
    i ∈ (slotRect h s).set ↔ (i 0).val = h.val ∧ 256 * s.val ≤ (i 1).val ∧ (i 1).val < 256 * s.val + 256 := by
  unfold slotRect
  rw [Rect.mem_set_unit, Fin.forall_fin_succ, Fin.forall_fin_succ, Fin.forall_fin_one]
  have h2 : (i 2).val < 512 := (i 2).isLt
  show ((h.val ≤ (i 0).val ∧ (i 0).val < h.val + 1) ∧ (256 * s.val ≤ (i 1).val ∧ (i 1).val < 256 * s.val + 256)
    ∧ (0 ≤ (i 2).val ∧ (i 2).val < 0 + 512)) ↔ _
  omega

theorem dst_set (d : Bool) (h : Fin 3) (s : Fin 2) : (dstM (d, h, s)).view.set = (slotRect h s).set.map (landM d).view.emb :=
  (View.set_reshape _ _).trans (View.set_slice _ _)

theorem slots_disjoint (h h' : Fin 3) (s s' : Fin 2) (hne : (h, s) ≠ (h', s')) : Disjoint (slotRect h s).set (slotRect h' s').set := by
  rw [Finset.disjoint_left]
  intro i hi hi'
  rw [mem_slotRect] at hi hi'
  exact hne (Prod.ext (Fin.ext (by show h.val = h'.val; omega)) (Fin.ext (by show s.val = s'.val; omega)))

/-- Two different slots of a buffer share no element. -/
theorem dst_disjoint (d : Bool) (h h' : Fin 3) (s s' : Fin 2) (hne : (h, s) ≠ (h', s')) :
    Disjoint (dstM (d, h, s)).view.set (dstM (d, h', s')).view.set := by
  rw [dst_set, dst_set]; exact (Finset.disjoint_map _).mpr (slots_disjoint h h' s s' hne)

/-- The six slots fill their buffer. -/
theorem dst_cover (d : Bool) : (Finset.univ : Finset (Fin 3 × Fin 2)).biUnion (fun y => (dstM (d, y.1, y.2)).view.set) = (landM d).view.set := by
  have hu : (Finset.univ : Finset (Fin 3 × Fin 2)).biUnion (fun y => (slotRect y.1 y.2).set) = Finset.univ := by
    refine Finset.eq_univ_of_forall fun i => Finset.mem_biUnion.mpr ⟨(i 0, ⟨(i 1).val / 256, ?_⟩), Finset.mem_univ _, ?_⟩
    · have : (i 1).val < 512 := (i 1).isLt
      omega
    · rw [mem_slotRect]
      show (i 0).val = (i 0).val ∧ 256 * ((i 1).val / 256) ≤ (i 1).val ∧ (i 1).val < 256 * ((i 1).val / 256) + 256
      omega
  have hm : (landM d).view.set = ((Finset.univ : Finset (Fin 3 × Fin 2)).biUnion fun y => (slotRect y.1 y.2).set).map (landM d).view.emb := by
    rw [hu]; rfl
  rw [hm]
  ext z
  simp only [Finset.mem_biUnion, Finset.mem_map, dst_set]
  constructor
  · rintro ⟨y, hy, i, hi, rfl⟩; exact ⟨i, ⟨y, hy, hi⟩, rfl⟩
  · rintro ⟨i, ⟨y, hy, hi⟩, rfl⟩; exact ⟨y, hy, i, hi, rfl⟩

/-- The element of a landing buffer at a hop, a row and a column. -/
def at3 (h : Fin 3) (r : Fin 512) (j : Fin 512) : S3x512x512.Idx := fun a => match a with
  | ⟨0, _⟩ => h
  | ⟨1, _⟩ => r
  | ⟨2, _⟩ => j

/-- Row `i` of a slot is row `256 s + i` of its hop. -/
theorem dst_read (d : Bool) (h : Fin 3) (s : Fin 2) (f : (landM d).view.ty.Contents (Elt F)) (i : S256x512.Idx) :
    (dstM (d, h, s)).view.read (Elt F) f i
      = (landM d).view.read (Elt F) f (at3 h ⟨256 * s.val + (i 0).val, by have : (i 0).val < 256 := (i 0).isLt; omega⟩ (i 1)) := by
  have hc : S1x256x512.ShapeCasts S256x512 := by decide
  refine (congrFun (Memref.read_squeeze_slice (landM d) (slotRect h s) (fun _ => rfl) squeezes_S1x256x512_S256x512 hc f) i).trans ?_
  refine (shapeCast_dropUnit_apply (n := 2) ![256, 512] _ _ i).trans ?_
  refine congrArg ((landM d).view.read (Elt F) f) (funext fun a => Fin.ext ?_)
  match a with
  | ⟨0, _⟩ => show h.val + 1 * 0 = h.val; omega
  | ⟨1, _⟩ => show 256 * s.val + 1 * (i 0).val = 256 * s.val + (i 0).val; omega
  | ⟨2, _⟩ => show 0 + 1 * (i 1).val = (i 1).val; omega

theorem inb_hop (h : Fin 3) : ∀ a, (![h.val, 0, 0] : Fin 3 → Nat) a + S1x512x512.size a ≤ S3x512x512.size a := by
  revert h; decide

/-- A whole hop of a landing buffer: both its segments. -/
def hopRect (h : Fin 3) : Rect S3x512x512 := Rect.unit (s := S3x512x512) ![h.val, 0, 0] S1x512x512.size (inb_hop h)

/-- A load of a hop reads its two slots' elements. -/
theorem hop_set (d : Bool) (h : Fin 3) : (landM d).view.setOn (hopRect h).set = (dstM (d, h, 0)).view.set ∪ (dstM (d, h, 1)).view.set := by
  rw [dst_set, dst_set]
  refine Eq.trans ?_ (Finset.map_union (f := (landM d).view.emb) _ _)
  refine congrArg (Finset.map (landM d).view.emb) (Finset.ext fun i => ?_)
  rw [Finset.mem_union, mem_slotRect, mem_slotRect]
  unfold hopRect
  rw [Rect.mem_set_unit, Fin.forall_fin_succ, Fin.forall_fin_succ, Fin.forall_fin_one]
  have h1 : (i 1).val < 512 := (i 1).isLt
  have h2 : (i 2).val < 512 := (i 2).isLt
  show ((h.val ≤ (i 0).val ∧ (i 0).val < h.val + 1) ∧ (0 ≤ (i 1).val ∧ (i 1).val < 0 + 512)
    ∧ (0 ≤ (i 2).val ∧ (i 2).val < 0 + 512)) ↔ ((i 0).val = h.val ∧ 256 * 0 ≤ (i 1).val ∧ (i 1).val < 256 * 0 + 256)
      ∨ ((i 0).val = h.val ∧ 256 * 1 ≤ (i 1).val ∧ (i 1).val < 256 * 1 + 256)
  omega

/-- A load of a hop, its unit axis dropped, is the 512 rows its two slots hold. -/
theorem hop_load (G : S4096x512.Idx → Elt F .f32) (d : Bool) (h : Fin 3) (b : ℕ) (f : (landM d).view.ty.Contents (Elt F))
    (hc : S1x512x512.ShapeCasts S512x512) (h0 : (dstM (d, h, 0)).view.read (Elt F) f = rowsOf G 256 (b + 256 * 0))
    (h1 : (dstM (d, h, 1)).view.read (Elt F) f = rowsOf G 256 (b + 256 * 1)) :
    shapeCast S512x512 ((landM d).view.readAt (Elt F) (hopRect h).toLoadRect f) hc = rowsOf G 512 b := by
  funext i
  refine (shapeCast_dropUnit_apply (n := 2) ![512, 512] _ _ i).trans ?_
  have hi : (i 0).val < 512 := (i 0).isLt
  have hv : (landM d).view.readAt (Elt F) (hopRect h).toLoadRect f (Fin.cons ⟨0, Nat.one_pos⟩ i)
      = (landM d).view.read (Elt F) f (at3 h ⟨(i 0).val, hi⟩ (i 1)) := by
    refine congrArg ((landM d).view.read (Elt F) f) (funext fun a => Fin.ext ?_)
    match a with
    | ⟨0, _⟩ => show h.val + 1 * 0 = h.val; omega
    | ⟨1, _⟩ => show 0 + 1 * (i 0).val = (i 0).val; omega
    | ⟨2, _⟩ => show 0 + 1 * (i 1).val = (i 1).val; omega
  refine hv.trans ?_
  have key (s : Fin 2) (k : ℕ) (hk : k < 256) (he : (i 0).val = 256 * s.val + k)
      (hs : (dstM (d, h, s)).view.read (Elt F) f = rowsOf G 256 (b + 256 * s.val)) :
      (landM d).view.read (Elt F) f (at3 h ⟨(i 0).val, hi⟩ (i 1)) = rowsOf G 512 b i := by
    have hr := (dst_read d h s f (Shape.pair (d := ![256, 512]) ⟨k, hk⟩ (i 1))).symm.trans (congrFun hs _)
    have e1 : (⟨(i 0).val, hi⟩ : Fin 512) = ⟨256 * s.val + k, he ▸ hi⟩ := Fin.ext he
    rw [e1]
    refine hr.trans ?_
    show G (spot (b + 256 * s.val + k) (i 1)) = G (spot (b + (i 0).val) (i 1))
    rw [he, Nat.add_assoc]
  rcases Nat.lt_or_ge (i 0).val 256 with hlt | hge
  · exact key 0 (i 0).val hlt (by show _ = 256 * 0 + _; omega) h0
  · exact key 1 ((i 0).val - 256) (by omega) (by show _ = 256 * 1 + _; omega) h1

/-- A load of one slot, its unit axis dropped, is what the slot holds. -/
theorem slot_load (d : Bool) (h : Fin 3) (s : Fin 2) (f : (landM d).view.ty.Contents (Elt F)) (hc : S1x256x512.ShapeCasts S256x512) :
    shapeCast S256x512 ((landM d).view.readAt (Elt F) (slotRect h s).toLoadRect f) hc = (dstM (d, h, s)).view.read (Elt F) f :=
  (Memref.read_squeeze_slice (landM d) (slotRect h s) (fun _ => rfl) squeezes_S1x256x512_S256x512 hc f).symm

theorem slot_set (d : Bool) (h : Fin 3) (s : Fin 2) : (landM d).view.setOn (slotRect h s).set = (dstM (d, h, s)).view.set :=
  (dst_set d h s).symm

/-! ## The device's own block -/

/-- The elements of the own block that a first hop reads. -/
def partRect (d : Bool) (s : Fin 2) : Rect S1024x512 :=
  Rect.unit (s := S1024x512) ![(if d then 0 else 512) + 256 * s.val, 0] S256x512.size (inb_part d s)

theorem mem_partRect (d : Bool) (s : Fin 2) (i : S1024x512.Idx) :
    i ∈ (partRect d s).set ↔ (if d then 0 else 512) + 256 * s.val ≤ (i 0).val ∧ (i 0).val < (if d then 0 else 512) + 256 * s.val + 256 := by
  unfold partRect
  rw [Rect.mem_set_unit, Fin.forall_fin_succ, Fin.forall_fin_one]
  have h1 : (i 1).val < 512 := (i 1).isLt
  show (((if d then 0 else 512) + 256 * s.val ≤ (i 0).val ∧ (i 0).val < ((if d then 0 else 512) + 256 * s.val) + 256) ∧ (0 ≤ (i 1).val ∧ (i 1).val < 0 + 512)) ↔ _
  omega

theorem src_set (d : Bool) (s : Fin 2) : (srcM (d, 0, s)).view.set = (partRect d s).set :=
  View.set_slice_whole cc0_stg0_0 (partRect d s)

/-- Two different first hops read different elements, -/
theorem part_disjoint (y y' : Bool × Fin 2) (hne : y ≠ y') : Disjoint (partRect y.1 y.2).set (partRect y'.1 y'.2).set := by
  refine Finset.disjoint_left.mpr fun i hi hi' => hne ?_
  rw [mem_partRect] at hi hi'
  obtain ⟨d, s⟩ := y; obtain ⟨d', s'⟩ := y'
  have hs := s.isLt; have hs' := s'.isLt
  cases d <;> cases d' <;> simp only [if_true, if_false, Bool.false_eq_true] at hi hi' <;>
    first
      | exact Prod.ext rfl (Fin.ext (by show s.val = s'.val; omega))
      | (exfalso; omega)

/-- and the four together read the whole block. -/
theorem part_cover : (Finset.univ : Finset (Bool × Fin 2)).biUnion (fun y => (partRect y.1 y.2).set) = Finset.univ := by
  refine Finset.eq_univ_of_forall fun i => ?_
  have hi : (i 0).val < 1024 := (i 0).isLt
  have key (d : Bool) (h : (if d then 0 else 512) ≤ (i 0).val ∧ (i 0).val < (if d then 0 else 512) + 512) :
      i ∈ (Finset.univ : Finset (Bool × Fin 2)).biUnion (fun y => (partRect y.1 y.2).set) := by
    refine Finset.mem_biUnion.mpr ⟨(d, ⟨((i 0).val - if d then 0 else 512) / 256, by omega⟩), Finset.mem_univ _, ?_⟩
    rw [mem_partRect]
    show (if d then 0 else 512) + 256 * (((i 0).val - if d then 0 else 512) / 256) ≤ (i 0).val
      ∧ (i 0).val < (if d then 0 else 512) + 256 * (((i 0).val - if d then 0 else 512) / 256) + 256
    omega
  rcases Nat.lt_or_ge (i 0).val 512 with hlt | hge
  · exact key true ⟨Nat.zero_le _, by show _ < 0 + 512; omega⟩
  · exact key false ⟨hge, by show _ < 512 + 512; omega⟩

/-- A first hop reads its segment of the own block. -/
theorem src_read (G : S4096x512.Idx → Elt F .f32) (d : Bool) (s : Fin 2) (c : Dev nD) :
    (srcM (d, 0, s)).view.read (Elt F) (rowsOf G 1024 (1024 * c.val)) = sent G (d, 0, s) c := by
  funext i
  show G (spot (1024 * c.val + (((if d then 0 else 512) + 256 * s.val) + 1 * (i 0).val)) ⟨0 + 1 * (i 1).val, _⟩)
    = G (spot (base d 0 c + 256 * s.val + (i 0).val) (i 1))
  have hr : 1024 * c.val + (((if d then 0 else 512) + 256 * s.val) + 1 * (i 0).val) = base d 0 c + 256 * s.val + (i 0).val := by
    have hc : c.val < 4 := c.isLt
    unfold base
    cases d <;> simp only [if_true, if_false, Bool.false_eq_true] <;> omega
  refine congrArg G (congrArg₂ spot hr (Fin.ext ?_))
  show 0 + 1 * (i 1).val = (i 1).val
  omega

/-! ## The output -/

/-- What a store of `n` rows from row `b` on leaves: those rows of the gathered array there, every other row as it was. -/
theorem put_apply (G : S4096x512.Idx → Elt F .f32) (n b : ℕ) (off : Fin 2 → ℕ) (hoff : off = ![b, 0])
    (inb : ∀ a, off a + (⟨2, ![n, 512]⟩ : Shape).size a ≤ S4096x512.size a) (f : S4096x512.Idx → Elt F .f32) (i : S4096x512.Idx) :
    ((Memref.whole cc0_stg1_0).access (Rect.unit (s := S4096x512) off (⟨2, ![n, 512]⟩ : Shape).size inb)).write (Elt F) f (rowsOf G n b) Finset.univ i
      = if b ≤ (i 0).val ∧ (i 0).val < b + n then G i else f i := by
  subst hoff
  have hj : (i 1).val < 512 := (i 1).isLt
  have hm : (i ∈ ((Memref.whole cc0_stg1_0).access (Rect.unit (s := S4096x512) ![b, 0] (⟨2, ![n, 512]⟩ : Shape).size inb)).set)
      ↔ b ≤ (i 0).val ∧ (i 0).val < b + n := by
    refine (ValueKit.mem_set_slice_whole_iff cc0_stg1_0 _ i Rect.mem_set_unit).trans ?_
    refine (Fin.forall_fin_two (p := fun a : Fin 2 => (![b, 0] : Fin 2 → ℕ) a ≤ (i a).val
      ∧ (i a).val < (![b, 0] : Fin 2 → ℕ) a + (![n, 512] : Fin 2 → ℕ) a)).trans ?_
    show ((b ≤ (i 0).val ∧ (i 0).val < b + n) ∧ (0 ≤ (i 1).val ∧ (i 1).val < 0 + 512)) ↔ _
    omega
  split_ifs with h
  · obtain ⟨x, -, hx⟩ := Finset.mem_map.mp (hm.mpr h)
    subst hx
    refine (View.write_emb_of_mem (v := ((Memref.whole cc0_stg1_0).access (Rect.unit (s := S4096x512) ![b, 0] (⟨2, ![n, 512]⟩ : Shape).size inb)))
      (Val := Elt F) f (rowsOf G n b) (Finset.mem_univ x)).trans ?_
    show G (spot (b + (x 0).val) (x 1)) = _
    have h0 : b + 1 * (x 0).val = (b + (x 0).val) := by omega
    refine congrArg G (funext fun a => Fin.ext ?_)
    match a with
    | ⟨0, _⟩ =>
      show (b + (x 0).val) % 4096 = b + 1 * (x 0).val
      have hb : b + n ≤ 4096 := inb 0
      have hx : (x 0).val < n := (x 0).isLt
      rw [Nat.mod_eq_of_lt (by omega)]; omega
    | ⟨1, _⟩ => show (x 1).val = 0 + 1 * (x 1).val; omega
  · exact View.write_of_not_mem _ _ _ (fun hmem => h (hm.mp hmem))

end Cert.Gathered

end
-- ==== Proof.Schedule.lean ====
/-
# Who pays whom

Every transfer has two semaphores, one at each end, and every device a handshake semaphore its two neighbours signal.
This file states what each signal hands over: a handshake signal, the six slots the neighbour is about to fill; a
landing, the slot filled with the rows sent; a departure, the rows lent to the transfer. It also states what each
device still has to pay at each moment, and the levels that keep the waits from going round in a circle.
-/
module

public import proofs.«01_k».proof.Proof.Rows

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB
local notation "𝕄" => MT nD τ sig Unit (Elt F) ℕ UU ℕ
abbrev EP : Emb (UR sig nD τ) 𝕄 := embL
abbrev ER : Emb UB 𝕄 := embR

/-! ## Ownership of the slots and segments -/

/-- Device `c` holds the memref `m`, at share `q`, with contents `X`. -/
def own (c : Dev nD) (m : Memref sig .tc .vmem S256x512 .f32) (q : PosShare TreeShare) (X : S256x512.Idx → Elt F .f32) : sProp 𝕄 :=
  owns (Ix := Unit) (Name := ℕ) (U := UU) (Lvl := ℕ) (c : Thread nD τ) m q X

instance own_storable (c : Dev nD) (m : Memref sig .tc .vmem S256x512 .f32) (q : PosShare TreeShare) (X : S256x512.Idx → Elt F .f32) :
    BI.Storable (upEmb : UEmb _ 𝕄) (own c m q X) := by unfold own; infer_instance

/-- The slot `x` of device `c`, to be overwritten. -/
def blank (x : Slot) (c : Dev nD) : sProp 𝕄 := iprop(∃ w, own (F := F) c (dstM x) fullShare w)
instance blank_storable (x : Slot) (c : Dev nD) : BI.Storable (upEmb : UEmb _ 𝕄) (blank (F := F) x c) := by unfold blank; infer_instance

/-- All six slots of device `c` that direction `d` fills. -/
def room (d : Bool) (c : Dev nD) : sProp 𝕄 := bigSep Finset.univ fun y : Fin 3 × Fin 2 => blank (F := F) (d, y.1, y.2) c
instance room_storable (d : Bool) (c : Dev nD) : BI.Storable (upEmb : UEmb _ 𝕄) (room (F := F) d c) := by unfold room; infer_instance

variable (G : S4096x512.Idx → Elt F .f32)

/-- What a transfer's semaphore hands the device that waits on it: at the sender the rows lent, at the receiver the
    slot filled. -/
def pay (k : Bool × Slot) (c : Dev nD) : sProp 𝕄 :=
  if k.1 then own c (dstM k.2) fullShare (got G k.2 c) else own c (srcM k.2) fullShare.left (sent G k.2 c)
instance pay_storable (k : Bool × Slot) (c : Dev nD) : BI.Storable (upEmb : UEmb _ 𝕄) (pay G k c) := by
  unfold pay; split <;> infer_instance

/-! ## The schedule -/

/-- A function of the transfers' semaphores, by the transfer and the end the semaphore belongs to; `z` at any other. -/
def onSem {α : Type} (f : Bool × Slot → α) (z : α) (q : DmaSem sig) : α :=
  open Classical in if h : ∃ k, dsem k = q then f h.choose else z
theorem onSem_dsem {α : Type} (f : Bool × Slot → α) (z : α) (k : Bool × Slot) : onSem f z (dsem k) = f k := by
  have h : ∃ k', dsem k' = dsem k := ⟨k, rfl⟩
  unfold onSem
  rw [dif_pos h, dsem_injective h.choose_spec]

abbrev IsBar (g : GSem nD τ sig) : Prop := g.1.2 = .tc ∧ g.2 = .reg bsem
abbrev IsXfer (g : GSem nD τ sig) : Prop := g.1.2 = .tc ∧ ∃ k, g.2 = .dma (dsem k)

/-- What one cell's one duty hands over. -/
def handed (g : GSem nD τ sig) (d : Bool) : sProp 𝕄 :=
  match g.2 with
  | .reg _ => room (F := F) d (onto d g.1.1)
  | .dma q => onSem (fun k => pay G k g.1.1) iprop(emp) q

/-- The one round of every cell: a handshake cell is paid by both neighbours, a transfer's cell by its transfer. -/
def Rd : Rounds.Schedule (GSem nD τ sig) Bool 𝕄 where
  duties g r := open Classical in if r = 0 ∧ IsBar g then Finset.univ else if r = 0 ∧ IsXfer g then {false} else ∅
  unitless _ := False
  amount g _ _ := open Classical in if g.2 = .reg bsem then 1 else N
  payload g _ d := handed G g d
  amount_pos g _ _ _ := by
    split
    · exact Nat.one_pos
    · exact N_pos

instance Rd_payload_storable (g : GSem nD τ sig) (r : ℕ) (d : Bool) : BI.Storable (upEmb : UEmb _ 𝕄) ((Rd (F := F) G).payload g r d) := by
  show BI.Storable upEmb (handed G g d)
  unfold handed
  split
  · infer_instance
  · unfold onSem; split <;> infer_instance

section Sched
variable (c : Dev nD)

theorem duties_bar : (Rd (F := F) G).duties (bcell c) 0 = Finset.univ := by dsimp only [Rd]; exact if_pos ⟨rfl, rfl, rfl⟩
theorem duties_xfer (k : Bool × Slot) : (Rd (F := F) G).duties (dcell k c) 0 = {false} := by
  dsimp only [Rd]; rw [if_neg fun h => by cases h.2.2]; exact if_pos ⟨rfl, rfl, k, rfl⟩
theorem duties_later (g : GSem nD τ sig) : ∀ r, 1 ≤ r → (Rd (F := F) G).duties g r = ∅ :=
  fun r hr => by dsimp only [Rd]; rw [if_neg fun h => by omega, if_neg fun h => by omega]

theorem amount_bar (d : Bool) : (Rd (F := F) G).amount (bcell c) 0 d = 1 := by dsimp only [Rd]; exact if_pos rfl
theorem amount_xfer (k : Bool × Slot) (d : Bool) : (Rd (F := F) G).amount (dcell k c) 0 d = N := by dsimp only [Rd]; exact if_neg fun h => by cases h

theorem expect_bar : (Rd (F := F) G).expect (bcell c) 0 = 2 := by
  unfold Schedule.expect Schedule.amountOf
  rw [duties_bar, Finset.sum_congr rfl fun d _ => amount_bar G c d, Finset.sum_const, Finset.card_univ, Fintype.card_bool, smul_eq_mul]
theorem expect_xfer (k : Bool × Slot) : (Rd (F := F) G).expect (dcell k c) 0 = N := by
  unfold Schedule.expect Schedule.amountOf; rw [duties_xfer, Finset.sum_singleton, amount_xfer]

theorem payload_bar (d : Bool) : (Rd (F := F) G).payload (bcell c) 0 d = room (F := F) d (onto d c) := rfl
theorem payload_xfer (k : Bool × Slot) (d : Bool) : (Rd (F := F) G).payload (dcell k c) 0 d = pay G k c :=
  onSem_dsem (fun k => pay G k c) iprop(emp) k

/-- The handshake's whole round: the six slots of each neighbour. -/
theorem rest_bar : bigSep ((Rd (F := F) G).duties (bcell c) 0 \ ∅) (fun d => (Rd (F := F) G).payload (bcell c) 0 d)
    = iprop(room (F := F) true (onto true c) ∗ room (F := F) false (onto false c)) := by
  rw [Finset.sdiff_empty, duties_bar, bigSep_univ_eq_bigSepL [true, false] (by decide) (by decide), bigSepL_cons_cons, bigSepL_singleton]
  rfl
/-- A transfer's whole round. -/
theorem rest_xfer (k : Bool × Slot) : bigSep ((Rd (F := F) G).duties (dcell k c) 0 \ ∅) (fun d => (Rd (F := F) G).payload (dcell k c) 0 d) = pay G k c := by
  rw [Finset.sdiff_empty, duties_xfer, bigSep_singleton, payload_xfer]

end Sched

/-! ## What is owed, and in which order -/

/-- The transfers in the order every device starts them. -/
def order : List Slot :=
  [(true, 0, 0), (false, 0, 0), (true, 0, 1), (false, 0, 1), (true, 1, 0), (false, 1, 0), (true, 1, 1), (false, 1, 1),
    (true, 2, 0), (false, 2, 0), (true, 2, 1), (false, 2, 1)]

/-- What device `c` owes while the transfers `l` are still to be started: each one's arrival at its receiver. -/
def due (c : Dev nD) : List Slot → CellTallies nD τ sig Unit
  | [] => 0
  | x :: l => due c l + tallyAt (dcell (true, x) (onto x.1 c)) () N
/-- What it owes after its first handshake signal, -/
def due₁ (c : Dev nD) : CellTallies nD τ sig Unit := due c order + tallyAt (bcell (onto true c)) () 1
/-- and before it. -/
def due₀ (c : Dev nD) : CellTallies nD τ sig Unit := due₁ c + tallyAt (bcell (onto false c)) () 1

/-- The cells that credit is owed to. -/
def L (g : GSem nD τ sig) : Finset Unit := if g.1.2 = .tc then {()} else ∅
/-- The levels: a device's handshake below its arrivals, an arrival below those of later hops. -/
def lv (g : GSem nD τ sig) (_ : Unit) : ℕ := match g.2 with
  | .reg _ => 1
  | .dma q => onSem (fun k => if k.1 then 2 + k.2.2.1.val else 0) 0 q

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bcell c) u = 1 := rfl
theorem lv_recv (c : Dev nD) (x : Slot) (u : Unit) : lv (dcell (true, x) c) u = 2 + x.2.1.val :=
  onSem_dsem (fun k => if k.1 then 2 + k.2.2.1.val else 0) 0 (true, x)

/-- Only arrivals of the transfers in `l` are owed. -/
theorem due_pos {c : Dev nD} {l : List Slot} {g : GSem nD τ sig} {u : Unit} (h : 0 < due c l g u) :
    ∃ x ∈ l, g = dcell (true, x) (onto x.1 c) := by
  induction l with
  | nil => exact absurd h (Nat.lt_irrefl 0)
  | cons x l ih =>
    unfold due at h
    rw [Pi.add_apply, Finsupp.add_apply, tallyAt_apply] at h
    by_cases hg : g = dcell (true, x) (onto x.1 c)
    · exact ⟨x, List.mem_cons_self, hg⟩
    · rw [if_neg fun h' => hg h'.1, Nat.add_zero] at h
      obtain ⟨y, hy, e⟩ := ih h
      exact ⟨y, List.mem_cons_of_mem _ hy, e⟩

/-- At the start only those and the two handshake signals are. -/
theorem due₀_pos {c : Dev nD} {g : GSem nD τ sig} {u : Unit} (h : 0 < due₀ c g u) :
    (∃ x ∈ order, g = dcell (true, x) (onto x.1 c)) ∨ ∃ d, g = bcell (onto d c) := by
  unfold due₀ due₁ at h
  rw [Pi.add_apply, Finsupp.add_apply, Pi.add_apply, Finsupp.add_apply, tallyAt_apply, tallyAt_apply] at h
  by_cases ht : g = bcell (onto true c)
  · exact .inr ⟨true, ht⟩
  · by_cases hf : g = bcell (onto false c)
    · exact .inr ⟨false, hf⟩
    · rw [if_neg fun h' => ht h'.1, if_neg fun h' => hf h'.1, Nat.add_zero] at h
      exact .inl (due_pos h)

/-- A device may wait on a cell of level at most `k` while it owes only cells above `k`. -/
theorem mayWait (c : Dev nD) (sm : SemLoc sig) (O : CellTallies nD τ sig Unit) (k : ℕ) (hk : lv ((c : Thread nD τ), sm) () ≤ k)
    (hO : ∀ g u, 0 < O g u → g.1.2 = .tc ∧ k < lv g u) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

/-- While only later hops are to be started, a device may wait for an arrival. -/
theorem mayWait_recv (c : Dev nD) (x : Slot) (l : List Slot) (h : ∀ y ∈ l, x.2.1 < y.2.1) :
    (levAts L lv : sProp 𝕄) ⊢ MayWait (c : Thread nD τ) (.dma (dsem (true, x))) () (due c l) :=
  mayWait c _ _ (2 + x.2.1.val) (lv_recv c x ()).le fun g u hg => by
    obtain ⟨y, hy, rfl⟩ := due_pos hg
    have := h y hy
    exact ⟨rfl, by rw [lv_recv]; exact Nat.add_lt_add_left this 2⟩

/-- With every transfer still to be started, it may wait for the handshake. -/
theorem mayWait_bar (c : Dev nD) : (levAts L lv : sProp 𝕄) ⊢ MayWait (c : Thread nD τ) (.reg bsem) () (due c order) :=
  mayWait c _ _ 1 (lv_bar c ()).le fun g u hg => by
    obtain ⟨y, hy, rfl⟩ := due_pos hg
    exact ⟨rfl, by rw [lv_recv]; omega⟩

/-- A semaphore of level zero may be waited on at the start, -/
theorem mayWait_start (c : Dev nD) (sm : SemLoc sig) (h : lv ((c : Thread nD τ), sm) () = 0) :
    (levAts L lv : sProp 𝕄) ⊢ MayWait (c : Thread nD τ) sm () (due₀ c) :=
  mayWait c _ _ 0 h.le fun g u hg => by
    rcases due₀_pos hg with ⟨y, -, rfl⟩ | ⟨d, rfl⟩
    · exact ⟨rfl, by rw [lv_recv]; omega⟩
    · exact ⟨rfl, by rw [lv_bar]; exact Nat.one_pos⟩

/-- and any at all when nothing is owed. -/
theorem mayWait_zero (c : Dev nD) (sm : SemLoc sig) : (levAts L lv : sProp 𝕄) ⊢ MayWait (c : Thread nD τ) sm () (0 : CellTallies nD τ sig Unit) := by
  rw [MayWait_zero]; iintro -; iempintro

/-- What device `c` owes, whatever it has waited on. -/
def ow (c : Dev nD) (O : CellTallies nD τ sig Unit) : sProp 𝕄 := iprop(∃ W, owes (c : Thread nD τ) O W)

/-! ## The ledger every device shares -/

/-- A device's cell. -/
abbrev cellAt (p : Dev nD × Ix) : GSem nD τ sig := ((p.1 : Thread nD τ), semOf p.2)

/-- Every cell of every device keeps the schedule, and has reached its one round. -/
def records (K : Dev nD × Ix → ℕ) : sProp 𝕄 :=
  iprop((bigSep Finset.univ fun p => cellInv ER (Rd G) (K p) (cellAt p)) ∗ bigSep Finset.univ fun p => reached ER (cellAt p) 0)

instance records_persistent (K : Dev nD × Ix → ℕ) : BI.Persistent (records G K) := by unfold records; infer_instance

theorem records_inv (K : Dev nD × Ix → ℕ) (p : Dev nD × Ix) : records G K ⊢ cellInv ER (Rd G) (K p) (cellAt p) :=
  sep_elim_left.trans (bigSep_elim (Finset.mem_univ p) (Φ := fun p => cellInv ER (Rd G) (K p) (cellAt p)))
theorem records_reached (K : Dev nD × Ix → ℕ) (p : Dev nD × Ix) : records G K ⊢ (reached ER (cellAt p) 0 : sProp 𝕄) :=
  sep_elim_right.trans (bigSep_elim (Finset.mem_univ p) (Φ := fun p => (reached ER (cellAt p) 0 : sProp 𝕄)))

/-- What a device starts a transfer with besides the rows and the slot: the two payments it makes, and its place at the
    departure's cell. -/
def tickets (x : Slot) (c : Dev nD) : sProp 𝕄 :=
  iprop(dutyTok ER (dcell (false, x) c) 0 false ∗ dutyTok ER (dcell (true, x) (onto x.1 c)) 0 false ∗ atPos ER (dcell (false, x) c) 0 ∅ 0)
/-- A transfer started and not yet waited for by its sender. -/
def flying (x : Slot) (c : Dev nD) : sProp 𝕄 :=
  iprop(cred (tallyAt (dcell (false, x) c) () N) ∗ atPos ER (dcell (false, x) c) 0 ∅ 0)
/-- An arrival not yet waited for. -/
def coming (x : Slot) (c : Dev nD) : sProp 𝕄 :=
  iprop(cred (tallyAt (dcell (true, x) c) () N) ∗ atPos ER (dcell (true, x) c) 0 ∅ 0)

end Cert.Gathered

end
-- ==== Proof.Steps.lean ====
/-
# The kernel's steps, each stated once

One lemma per kind of effect, for every transfer (direction, hop, segment) at once: the handshake, a transfer started,
a semaphore waited for, a landed hop or segment loaded, the own block loaded, and rows stored into the result.
-/
module

public import proofs.«01_k».proof.Proof.Schedule

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Sharing and joining what is held -/

/-- What is held whole is held by its two halves, -/
theorem own_split (c : Dev nD) (m : Memref sig .tc .vmem S256x512 .f32) (X : S256x512.Idx → Elt F .f32) :
    own c m fullShare X ⊢ (iprop(own c m fullShare.left X ∗ own c m fullShare.right X) : sProp 𝕄) := by
  unfold own owns
  iintro ⟨%f, %hf, H⟩
  ihave H' := (pointsTo_share (PosShare.mem_left_op_right fullShare)).1 $$ H
  icases H' with ⟨Hl, Hr⟩
  isplitl [Hl]
  · iexists f; isplitr
    · ipureintro; exact hf
    iexact Hl
  · iexists f; isplitr
    · ipureintro; exact hf
    iexact Hr

/-- Two buffers a memref reads alike agree on its elements. -/
theorem eq_on_set (m : Memref sig .tc .vmem S256x512 .f32) (f g : m.view.ty.Contents (Elt F)) (h : m.view.read (Elt F) f = m.view.read (Elt F) g) :
    ∀ i ∈ m.view.set, f i = g i := by
  intro i hi
  obtain ⟨x, -, rfl⟩ := Finset.mem_map.mp hi
  have hx := congrFun h x
  rw [View.read_apply, View.read_apply] at hx
  exact (cast_inj _).mp hx

/-- A memref held with what it reads from `f` is its elements held at `f`. -/
theorem own_read (c : Dev nD) (m : Memref sig .tc .vmem S256x512 .f32) (q : PosShare TreeShare) (f : m.view.ty.Contents (Elt F)) :
    own c m q (m.view.read (Elt F) f) ⊢ (m.view.loc (c : Thread nD τ) ↦[m.view.set]{q} f : sProp 𝕄) := by
  unfold own owns
  iintro ⟨%g, %hg, H⟩
  iapply (Entails.of_eq (pointsTo_congr (eq_on_set m g f hg)))
  iexact H

/-- and the halves join to the whole. -/
theorem own_join (c : Dev nD) (m : Memref sig .tc .vmem S256x512 .f32) (X : S256x512.Idx → Elt F .f32) :
    (iprop(own c m fullShare.left X ∗ own c m fullShare.right X) : sProp 𝕄) ⊢ own c m fullShare X := by
  iintro ⟨Hl, Hr⟩
  ihave H' := (Entails.of_eq (show own c m fullShare.right X = (iprop(∃ f, ⌜m.view.read (Elt F) f = X⌝
    ∗ (m.view.loc (c : Thread nD τ) ↦[m.view.set]{fullShare.right} f)) : sProp 𝕄) from rfl)) $$ Hr
  icases H' with ⟨%f, %hf, Hr⟩
  subst hf
  ihave Hl' := (own_read c m fullShare.left f) $$ Hl
  unfold own
  iapply (owns_intro (c : Thread nD τ) m fullShare f)
  iapply (pointsTo_share (PosShare.mem_left_op_right fullShare)).2
  isplitl [Hl'] <;> iassumption

/-- A filled slot may be overwritten. -/
theorem own_blank (x : Slot) (c : Dev nD) (X : S256x512.Idx → Elt F .f32) : own c (dstM x) fullShare X ⊢ (blank (F := F) x c : sProp 𝕄) := by
  unfold blank; iintro H; iexists X; iexact H

/-! ## Transfers and waits -/

abbrev 𝒱₀ : Variants := Variants.none

/-- A program of device `c`, run to `Q`. -/
abbrev exec (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (G : S4096x512.Idx → Elt F .f32) (K : Dev nD × Ix → ℕ)

/-- A handshake signal to the neighbour in direction `!d`: it hands over the six slots that neighbour's transfers in
    direction `d` will fill. -/
theorem step_signal (c n : Dev nD) (d : Bool) (hn : n = onto (!d) c) (O : CellTallies nD τ sig Unit) (a : ℕ) (ha : a = 1)
    {sm : Sem sig} (hsm : sm = bsem) {α : Type} {Q : α → sProp 𝕄} {k : PUnit → Prog (TpuEff nD τ sig (Elt F) Λ₀ .tc) α} :
    iprop(records G K ∗ ow (F := F) c (O + tallyAt (bcell (onto (!d) c)) () 1) ∗ dutyTok ER (bcell (onto (!d) c)) 0 d ∗ room (F := F) d c)
      ⊢ iprop((ow (F := F) c O -∗ exec c (k ⟨⟩) Q)
          -∗ exec c (.op (.semSignal (n : Thread nD τ) sm a) k) Q) := by
  subst hn ha hsm
  unfold ow
  iintro ⟨#HR, ⟨%W, HO⟩, Ht, Hroom⟩ Hk
  iapply (Rounds.wp_signal 𝒱₀ ER (Rd G) (c : Thread nD τ) none (dst := (onto (!d) c : Thread nD τ)) (κ := K (onto (!d) c, .inl ()))
      (d := d) (by rw [duties_bar]; exact Finset.mem_univ _) (amount_bar G (onto (!d) c) d) () O rfl (W := W)) $$ [HO Ht Hroom]
  · isplitr; · iapply (records_inv G K (onto (!d) c, .inl ())); iexact HR
    isplitl [HO]; · iexact HO
    isplitl [Ht]; · iexact Ht
    isplitl [Hroom]
    · rw [payload_bar, onto_back]; iexact Hroom
    · iapply (records_reached G K (onto (!d) c, .inl ())); iexact HR
  iintro HO
  iapply Hk
  iexists W; iexact HO

/-- The wait for both neighbours' signals: each one's six slots come with it, and the handshake's cell is done. -/
theorem step_handshake (c : Dev nD) (a : ℕ) (ha : a = 2) {sm : Sem sig} (hsm : sm = bsem)
    {α : Type} {Q : α → sProp 𝕄} {k : PUnit → Prog (TpuEff nD τ sig (Elt F) Λ₀ .tc) α} :
    iprop(records G K ∗ levAts L lv ∗ ow (F := F) c (due c order) ∗ cred (tallyAt (bcell c) () 2) ∗ atPos ER (bcell c) 0 ∅ 0)
      ⊢ iprop(((ow (F := F) c (due c order) ∗ room (F := F) true (onto true c) ∗ room (F := F) false (onto false c) ∗ semVal (bcell c) 0) -∗ exec c (k ⟨⟩) Q)
          -∗ exec c (.op (.semWait sm a) k) Q) := by
  subst ha hsm
  unfold ow
  iintro ⟨#HR, #HL, ⟨%W, HO⟩, Hc, Hat⟩ Hk
  ihave #HI := (records_inv G K (c, .inl ())) $$ HR
  iapply (Rounds.wp_wait_rest_token 𝒱₀ ER (Rd G) (c : Thread nD τ) none (κ := K (c, .inl ()))
      (wpE_semWait_eq 𝒱₀ (c : Thread nD τ) none Set.univ) (Set.mem_univ _) () (O := due c order) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact HL
    iexact Hat
  iintro ⟨HO, Hat, -, Hpay⟩
  ihave Hp := (Entails.of_eq (rest_bar G c)) $$ Hpay
  icases Hp with ⟨Ht, Hf⟩
  imod (Rounds.cell_close ER (Rd G) (Set.mem_univ (K (c, .inl ()))) (fun h => h) (R := 0 + 1) (duties_later G (bcell c))) $$ [Hat] with Hz
  · isplitr; · iexact HI
    iexact Hat
  iapply Hk
  isplitl [HO]; · iexists _; iexact HO
  isplitl [Ht]; · iexact Ht
  isplitl [Hf] <;> iassumption

/-- A transfer started: the rows it reads are lent to it, the slot it fills given to it, and its arrival no longer owed. -/
theorem step_start (x : Slot) (l : List Slot) (c n : Dev nD) (hn : n = onto x.1 c) {src dst : Memref sig .tc .vmem S256x512 .f32} (hs : src = srcM x) (hd : dst = dstM x)
    {qs qr : DmaSem sig} (hqs : qs = dsem (false, x)) (hqr : qr = dsem (true, x))
    {hsc : (dst : Memref sig (Dev.tc n : Thread nD τ).2.kind .vmem S256x512 .f32).view.ref.isScScratch = false}
    {hsrc : src.view.WordExact} {hdst : dst.view.WordExact}
    {hsem : DmaTarget.Typed .vmem (.dma qr) (.remote (Dev.tc n : Thread nD τ) (dst : Memref sig .tc .vmem S256x512 .f32) (.dma qs) hsc)}
    {α : Type} {Q : α → sProp 𝕄} {k : PUnit → Prog (TpuEff nD τ sig (Elt F) Λ₀ .tc) α} :
    iprop(records G K ∗ ow (F := F) c (due c (x :: l)) ∗ own c (srcM x) fullShare.left (sent G x c) ∗ blank (F := F) x (onto x.1 c) ∗ tickets (F := F) x c)
      ⊢ iprop(((ow (F := F) c (due c l) ∗ flying (F := F) x c) -∗ exec c (k ⟨⟩) Q)
          -∗ exec c (.op (.enqueueDma src (.remote (Dev.tc n : Thread nD τ) dst (.dma qs) hsc) (.dma qr) hsrc hdst hsem) k) Q) := by
  subst hn hs hd hqs hqr
  unfold ow tickets blank flying own owns
  iintro ⟨#HR, ⟨%W, HO⟩, ⟨%fs, %hfs, Hs⟩, ⟨%w, %fd, -, Hd⟩, Hts, Htr, Hat⟩ Hk
  iapply (Rounds.wp_send_pointsTo 𝒱₀ ER (Rd G) (c : Thread nD τ) none (κ₁ := K (c, .inr (false, x))) (κ₂ := K (onto x.1 c, .inr (true, x)))
      (r₁ := 0) (r₂ := 0) (d₁ := false) (d₂ := false) (fs := fs) (fd := fd) (q := fullShare.left)
      (by rw [duties_xfer]; exact Finset.mem_singleton_self _) (by rw [duties_xfer]; exact Finset.mem_singleton_self _)
      () () N (show (dstM x).view.amount (.dma (dsem (true, x))) = N from dst_credit x) (amount_xfer G c (false, x) false) (amount_xfer G (onto x.1 c) (true, x) false) (due c l) rfl (W := W)
      (by
        rw [payload_xfer]
        show _ ⊢ own c (srcM x) fullShare.left (sent G x c)
        rw [← hfs]; exact owns_intro (c : Thread nD τ) (srcM x) fullShare.left fs)
      (by
        rw [payload_xfer]
        show _ ⊢ own (onto x.1 c) (dstM x) fullShare (got G x (onto x.1 c))
        rw [got_onto, ← hfs, ← View.read_write_univ (v := (dstM x).view) (Val := Elt F) fd ((srcM x).view.read (Elt F) fs)]
        exact (owns_intro (onto x.1 c : Thread nD τ) (dstM x) fullShare _).trans (by rw [View.read_write_univ, View.read_write_univ]; exact .rfl))) $$ [HO Hs Hd Hts Htr]
  · isplitr; · iapply (records_inv G K (c, .inr (false, x))); iexact HR
    isplitr; · iapply (records_inv G K (onto x.1 c, .inr (true, x))); iexact HR
    isplitl [Hs]; · iexact Hs
    isplitl [Hd]; · iexact Hd
    isplitl [HO]; · iexact HO
    isplitl [Hts]; · iexact Hts
    isplitr; · iapply (records_reached G K (c, .inr (false, x))); iexact HR
    isplitl [Htr]; · iexact Htr
    iapply (records_reached G K (onto x.1 c, .inr (true, x))); iexact HR
  iintro ⟨Hc, HO⟩
  iapply Hk
  isplitl [HO]; · iexists W; iexact HO
  isplitl [Hc] <;> iassumption

/-- A wait on either end's semaphore of a transfer: what it hands over, and the cell done. -/
theorem step_wait (k₀ : Bool × Slot) (c : Dev nD) (O : CellTallies nD τ sig Unit)
    (hO : (levAts L lv : sProp 𝕄) ⊢ MayWait (c : Thread nD τ) (.dma (dsem k₀)) () O) {q : DmaSem sig} (hq : q = dsem k₀)
    {s s' : Shape} {src : Memref sig .tc .vmem s .f32} {dst : Memref sig .tc .vmem s' .f32} {hsrc : src.view.WordExact} {hdst : dst.view.WordExact} (hN : dst.view.dmaCredit = N)
    {α : Type} {Q : α → sProp 𝕄} {k : PUnit → Prog (TpuEff nD τ sig (Elt F) Λ₀ .tc) α} :
    iprop(records G K ∗ levAts L lv ∗ ow (F := F) c O ∗ cred (tallyAt (dcell k₀ c) () N) ∗ atPos ER (dcell k₀ c) 0 ∅ 0)
      ⊢ iprop(((ow (F := F) c O ∗ pay G k₀ c ∗ semVal (dcell k₀ c) 0) -∗ exec c (k ⟨⟩) Q)
          -∗ exec c (.op (.waitDma2 q src dst hsrc hdst) k) Q) := by
  subst hq
  unfold ow
  iintro ⟨#HR, #HL, ⟨%W, HO⟩, Hc, Hat⟩ Hk
  ihave #HI := (records_inv G K (c, .inr k₀)) $$ HR
  iapply (Rounds.wp_wait_rest_token 𝒱₀ ER (Rd G) (c : Thread nD τ) none (κ := K (c, .inr k₀))
      (wpE_waitDma2_eq 𝒱₀ (c : Thread nD τ) none Set.univ) (Set.mem_univ _) () (O := O) (W := W) (R := 0) (m := 0) (T := ∅)
      (by rw [Nat.zero_add, hN, expect_xfer])) $$ [Hc HO Hat]
  · isplitr; · iexact HI
    isplitl [Hc]; · rw [hN]; iexact Hc
    isplitl [HO]; · iexact HO
    isplitr; · iapply hO; iexact HL
    iexact Hat
  iintro ⟨HO, Hat, -, Hpay⟩
  imod (Rounds.cell_close ER (Rd G) (Set.mem_univ (K (c, .inr k₀))) (fun h => h) (R := 0 + 1) (duties_later G (dcell k₀ c))) $$ [Hat] with Hz
  · isplitr; · iexact HI
    iexact Hat
  iapply Hk
  isplitl [HO]; · iexists _; iexact HO
  isplitl [Hpay]; · iapply (Entails.of_eq (rest_xfer G c k₀)); iexact Hpay
  iexact Hz

/-- The wait for an arrival, while only later hops are to be started: the slot, filled, in two halves. -/
theorem step_arrive (x : Slot) (l : List Slot) (hl : ∀ y ∈ l, x.2.1 < y.2.1) (c : Dev nD) {q : DmaSem sig} (hq : q = dsem (true, x))
    {s s' : Shape} {src : Memref sig .tc .vmem s .f32} {dst : Memref sig .tc .vmem s' .f32} {hsrc : src.view.WordExact} {hdst : dst.view.WordExact} (hN : dst.view.dmaCredit = N)
    {α : Type} {Q : α → sProp 𝕄} {k : PUnit → Prog (TpuEff nD τ sig (Elt F) Λ₀ .tc) α} :
    iprop(records G K ∗ levAts L lv ∗ ow (F := F) c (due c l) ∗ coming (F := F) x c)
      ⊢ iprop(((ow (F := F) c (due c l) ∗ own c (dstM x) fullShare.left (got G x c) ∗ own c (dstM x) fullShare.right (got G x c)
            ∗ semVal (dcell (true, x) c) 0) -∗ exec c (k ⟨⟩) Q)
          -∗ exec c (.op (.waitDma2 q src dst hsrc hdst) k) Q) := by
  unfold coming
  iintro ⟨HR, HL, HO, Hc, Hat⟩ Hk
  iapply (step_wait G K (true, x) c (due c l) (mayWait_recv c x l hl) hq hN) $$ [HR HL HO Hc Hat]
  · isplitl [HR]; · iexact HR
    isplitl [HL]; · iexact HL
    isplitl [HO]; · iexact HO
    isplitl [Hc] <;> iassumption
  iintro ⟨HO, Hpay, Hz⟩
  iapply Hk
  isplitl [HO]; · iexact HO
  ihave Hp := ((Entails.of_eq (show pay G (true, x) c = own c (dstM x) fullShare (got G x c) from if_pos rfl)).trans (own_split c (dstM x) (got G x c))) $$ Hpay
  icases Hp with ⟨Hl, Hr⟩
  isplitl [Hl]; · iexact Hl
  isplitl [Hr] <;> iassumption

/-- The wait for a departure, nothing being owed: the rows lent come back. -/
theorem step_depart (x : Slot) (c : Dev nD) {q : DmaSem sig} (hq : q = dsem (false, x))
    {s s' : Shape} {src : Memref sig .tc .vmem s .f32} {dst : Memref sig .tc .vmem s' .f32} {hsrc : src.view.WordExact} {hdst : dst.view.WordExact} (hN : dst.view.dmaCredit = N)
    {α : Type} {Q : α → sProp 𝕄} {k : PUnit → Prog (TpuEff nD τ sig (Elt F) Λ₀ .tc) α} :
    iprop(records G K ∗ levAts L lv ∗ ow (F := F) c (due c []) ∗ flying (F := F) x c)
      ⊢ iprop(((ow (F := F) c (due c []) ∗ own c (srcM x) fullShare.left (sent G x c) ∗ semVal (dcell (false, x) c) 0) -∗ exec c (k ⟨⟩) Q)
          -∗ exec c (.op (.waitDma2 q src dst hsrc hdst) k) Q) := by
  unfold flying
  iintro ⟨HR, HL, HO, Hc, Hat⟩ Hk
  iapply (step_wait G K (false, x) c (due c []) (mayWait_zero c _) hq hN) $$ [HR HL HO Hc Hat]
  · isplitl [HR]; · iexact HR
    isplitl [HL]; · iexact HL
    isplitl [HO]; · iexact HO
    isplitl [Hc] <;> iassumption
  iintro ⟨HO, Hpay, Hz⟩
  iapply Hk
  isplitl [HO]; · iexact HO
  isplitl [Hpay]; · iapply (Entails.of_eq (show pay G (false, x) c = own c (srcM x) fullShare.left (sent G x c) from if_neg Bool.false_ne_true)); iexact Hpay
  iexact Hz

end Cert.Gathered

end
-- ==== Proof.Moves.lean ====
/-
# Rows copied into the result

The kernel copies what it holds into its result: first its own block, then each landed hop, at last the landed
segments of the third hop one at a time. Each copy is a load, a load of the rows about to be overwritten whose value is
not used, and a store. The result is tracked by the runs of rows written so far.
-/
module

public import proofs.«01_k».proof.Proof.Steps

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (G : S4096x512.Idx → Elt F .f32)

/-- Device `c`'s result buffer, holding the gathered rows in every run (first row, number of rows) listed. -/
def outP (c : Dev nD) (l : List (ℕ × ℕ)) : sProp 𝕄 :=
  iprop(∃ f : S4096x512.Idx → Elt F .f32, ⌜∀ i : S4096x512.Idx, (∃ p ∈ l, p.1 ≤ (i 0).val ∧ (i 0).val < p.1 + p.2) → f i = G i⌝
    ∗ ((c : Thread nD τ).loc cc0_stg1_0 ↦{fullShare} f))

/-- A load of rows of the result, its value not used, and a store of `n` gathered rows there. -/
theorem step_put (n b : ℕ) (l : List (ℕ × ℕ)) (c : Dev nD) {off : Fin 2 → ℕ} (hoff : off = ![b, 0])
    {inb : ∀ a, off a + (⟨2, ![n, 512]⟩ : Shape).size a ≤ S4096x512.size a}
    {w : (⟨2, ![n, 512]⟩ : Shape).Idx → Elt F .f32} (hw : w = rowsOf G n b)
    {hl : (Memref.whole cc0_stg1_0).view.LoadsAt (Rect.unit (s := S4096x512) off (⟨2, ![n, 512]⟩ : Shape).size inb).toLoadRect}
    {hx : ((Memref.whole cc0_stg1_0).access (Rect.unit (s := S4096x512) off (⟨2, ![n, 512]⟩ : Shape).size inb)).Stores Finset.univ}
    {hm : (Finset.univ : Finset (⟨2, ![n, 512]⟩ : Shape).Idx) = Finset.univ ∨ ∀ a, (Rect.unit (s := S4096x512) off (⟨2, ![n, 512]⟩ : Shape).size inb).stride a = 1}
    {α : Type} {Q : α → sProp 𝕄} {k : PUnit → Prog (TpuEff nD τ sig (Elt F) Λ₀ .tc) α} :
    outP G c l ⊢ iprop((outP G c ((b, n) :: l) -∗ exec c (k ⟨⟩) Q)
      -∗ exec c (.op (.load (Memref.whole cc0_stg1_0) (Rect.unit (s := S4096x512) off (⟨2, ![n, 512]⟩ : Shape).size inb).toLoadRect hl)
          fun _ => .op (.store (Memref.whole cc0_stg1_0) (Rect.unit (s := S4096x512) off (⟨2, ![n, 512]⟩ : Shape).size inb) w Finset.univ hx hm) k) Q) := by
  subst hw
  unfold outP
  iintro ⟨%f, %hf, H⟩ Hk
  iapply (wp_load 𝒱₀ (c : Thread nD τ) none Set.univ (m := Memref.whole cc0_stg1_0) (Finset.subset_univ _)) $$ H; iintro H
  iapply (wp_store 𝒱₀ (c : Thread nD τ) none Set.univ (m := Memref.whole cc0_stg1_0)
    (r := Rect.unit (s := S4096x512) off (⟨2, ![n, 512]⟩ : Shape).size inb) (Mk := Finset.univ) (Finset.subset_univ _)) $$ H; iintro H
  iapply Hk
  iexists _
  isplitr [H]
  rotate_left
  · iexact H
  · ipureintro
    intro i hi
    refine (put_apply G n b off hoff inb f i).trans ?_
    split_ifs with h
    · rfl
    · obtain ⟨p, hp, hr⟩ := hi
      rcases List.mem_cons.mp hp with rfl | hp
      · exact absurd hr h
      · exact hf i ⟨p, hp, hr⟩

/-- The own block copied: the load of the whole block, held at its right half, and the store of its 1024 rows. -/
theorem step_block (l : List (ℕ × ℕ)) (c : Dev nD) {off₀ : Fin 2 → ℕ} (hoff₀ : off₀ = fun _ => 0)
    {inb₀ : ∀ a, off₀ a + S1024x512.size a ≤ S1024x512.size a} {off : Fin 2 → ℕ} (hoff : off = ![base true 0 c, 0])
    {inb : ∀ a, off a + (⟨2, ![1024, 512]⟩ : Shape).size a ≤ S4096x512.size a}
    {w : (S1024x512.Idx → Elt F .f32) → (⟨2, ![1024, 512]⟩ : Shape).Idx → Elt F .f32} (hw : ∀ v, w v = v)
    {hl₀ : (Memref.whole cc0_stg0_0).view.LoadsAt (Rect.unit (s := S1024x512) off₀ S1024x512.size inb₀).toLoadRect}
    {hl : (Memref.whole cc0_stg1_0).view.LoadsAt (Rect.unit (s := S4096x512) off (⟨2, ![1024, 512]⟩ : Shape).size inb).toLoadRect}
    {hx : ((Memref.whole cc0_stg1_0).access (Rect.unit (s := S4096x512) off (⟨2, ![1024, 512]⟩ : Shape).size inb)).Stores Finset.univ}
    {hm : (Finset.univ : Finset (⟨2, ![1024, 512]⟩ : Shape).Idx) = Finset.univ ∨ ∀ a, (Rect.unit (s := S4096x512) off (⟨2, ![1024, 512]⟩ : Shape).size inb).stride a = 1}
    {α : Type} {Q : α → sProp 𝕄} {k : PUnit → Prog (TpuEff nD τ sig (Elt F) Λ₀ .tc) α} :
    iprop(outP G c l ∗ ((c : Thread nD τ).loc cc0_stg0_0 ↦{fullShare.right} (rowsOf G 1024 (1024 * c.val) : S1024x512.Idx → Elt F .f32)))
      ⊢ iprop(((outP G c ((base true 0 c, 1024) :: l) ∗ ((c : Thread nD τ).loc cc0_stg0_0 ↦{fullShare.right} (rowsOf G 1024 (1024 * c.val) : S1024x512.Idx → Elt F .f32)))
          -∗ exec c (k ⟨⟩) Q)
        -∗ exec c (.op (.load (Memref.whole cc0_stg0_0) (Rect.unit (s := S1024x512) off₀ S1024x512.size inb₀).toLoadRect hl₀)
            fun v => .op (.load (Memref.whole cc0_stg1_0) (Rect.unit (s := S4096x512) off (⟨2, ![1024, 512]⟩ : Shape).size inb).toLoadRect hl)
              fun _ => .op (.store (Memref.whole cc0_stg1_0) (Rect.unit (s := S4096x512) off (⟨2, ![1024, 512]⟩ : Shape).size inb) (w v) Finset.univ hx hm) k) Q) := by
  iintro ⟨Ho, Hx⟩ Hk
  iapply (wp_load 𝒱₀ (c : Thread nD τ) none Set.univ (m := Memref.whole cc0_stg0_0) (Finset.subset_univ _)) $$ Hx; iintro Hx
  iapply (step_put G 1024 (base true 0 c) l c hoff (hw := by
    rw [hw]
    refine (Memref.readAt_unit_zero (Elt F) cc0_stg0_0 hoff₀ _ _).trans (congrArg (rowsOf G 1024) ?_)
    have hc : c.val < 4 := c.isLt
    unfold base
    simp only [if_true]
    omega)) $$ Ho
  iintro Ho
  iapply Hk
  isplitl [Ho] <;> iassumption

/-- What a slot holds is held as elements of its landing buffer. -/
theorem own_slot (c : Dev nD) (d : Bool) (h : Fin 3) (s : Fin 2) (q : PosShare TreeShare) (X : S256x512.Idx → Elt F .f32) :
    own c (dstM (d, h, s)) q X = (iprop(∃ f : (landM d).view.ty.Contents (Elt F), ⌜(dstM (d, h, s)).view.read (Elt F) f = X⌝
      ∗ ((landM d).view.loc (c : Thread nD τ) ↦[(landM d).view.setOn (slotRect h s).set]{q} f)) : sProp 𝕄) := by
  rw [slot_set]; rfl

/-- Buffers that agree on a memref's elements are read alike. -/
theorem read_eq_of (m : Memref sig .tc .vmem S256x512 .f32) (f g : m.view.ty.Contents (Elt F)) (h : ∀ i ∈ m.view.set, f i = g i) :
    m.view.read (Elt F) f = m.view.read (Elt F) g := by
  funext x
  rw [View.read_apply, View.read_apply, h _ (View.emb_mem_set _ x)]

/-- The elements a load of a hop reads are those of its two slots, which share none. -/
theorem hop_union (d : Bool) (h : Fin 3) : (landM d).view.setOn (hopRect h).set
    = (landM d).view.setOn (slotRect h 0).set ∪ (landM d).view.setOn (slotRect h 1).set := by
  rw [slot_set, slot_set]; exact hop_set d h
theorem hop_apart (d : Bool) (h : Fin 3) : Disjoint ((landM d).view.setOn (slotRect h 0).set) ((landM d).view.setOn (slotRect h 1).set) :=
  (Finset.disjoint_map _).mpr (slots_disjoint h h 0 1 fun e => absurd (congrArg Prod.snd e) (show ¬(0 : Fin 2) = 1 by decide))

/-- Both slots of a hop are held as one range of their buffer, -/
theorem hop_join (c : Dev nD) (d : Bool) (h : Fin 3) (q : PosShare TreeShare) (X Y : S256x512.Idx → Elt F .f32) :
    iprop(own c (dstM (d, h, 0)) q X ∗ own c (dstM (d, h, 1)) q Y)
      ⊢ (iprop(∃ f : (landM d).view.ty.Contents (Elt F), ⌜(dstM (d, h, 0)).view.read (Elt F) f = X ∧ (dstM (d, h, 1)).view.read (Elt F) f = Y⌝
          ∗ ((landM d).view.loc (c : Thread nD τ) ↦[(landM d).view.setOn (hopRect h).set]{q} f)) : sProp 𝕄) := by
  rw [own_slot, own_slot, hop_union]
  iintro ⟨⟨%f0, %h0, H0⟩, %f1, %h1, H1⟩
  iexists (((landM d).view.setOn (slotRect h 1).set).piecewise f1 f0)
  isplitr
  · ipureintro
    constructor
    · exact (read_eq_of (dstM (d, h, 0)) _ f0 fun i hi => Finset.piecewise_eq_of_notMem _ _ _
        (Finset.disjoint_left.mp (hop_apart d h) ((slot_set d h 0).symm ▸ hi))).trans h0
    · exact (read_eq_of (dstM (d, h, 1)) _ f1 fun i hi => Finset.piecewise_eq_of_mem _ _ _ ((slot_set d h 1).symm ▸ hi)).trans h1
  iapply (pointsTo_join (hop_apart d h))
  isplitl [H0] <;> iassumption

/-- and the other way round. -/
theorem hop_parts (c : Dev nD) (d : Bool) (h : Fin 3) (q : PosShare TreeShare) (X Y : S256x512.Idx → Elt F .f32) (f : (landM d).view.ty.Contents (Elt F))
    (h0 : (dstM (d, h, 0)).view.read (Elt F) f = X) (h1 : (dstM (d, h, 1)).view.read (Elt F) f = Y) :
    ((landM d).view.loc (c : Thread nD τ) ↦[(landM d).view.setOn (hopRect h).set]{q} f)
      ⊢ (iprop(own c (dstM (d, h, 0)) q X ∗ own c (dstM (d, h, 1)) q Y) : sProp 𝕄) := by
  rw [own_slot, own_slot, hop_union]
  iintro H
  ihave H' := (pointsTo_union (hop_apart d h)).1 $$ H
  icases H' with ⟨H0, H1⟩
  isplitl [H0]
  · iexists f; isplitr
    · ipureintro; exact h0
    iexact H0
  · iexists f; isplitr
    · ipureintro; exact h1
    iexact H1

/-- A landed hop copied: both its slots, held at their right halves, loaded at once, and their 512 rows stored. -/
theorem step_hop (d : Bool) (h : Fin 3) (l : List (ℕ × ℕ)) (c : Dev nD) {m : Memref sig .tc .vmem S3x512x512 .f32} (hmem : m = landM d)
    {off₀ : Fin 3 → ℕ} (hoff₀ : off₀ = ![h.val, 0, 0])
    {inb₀ : ∀ a, off₀ a + S1x512x512.size a ≤ S3x512x512.size a} {off : Fin 2 → ℕ} (hoff : off = ![base d (h.val + 1) c, 0])
    {inb : ∀ a, off a + (⟨2, ![512, 512]⟩ : Shape).size a ≤ S4096x512.size a}
    {w : (S1x512x512.Idx → Elt F .f32) → (⟨2, ![512, 512]⟩ : Shape).Idx → Elt F .f32} (hc : S1x512x512.ShapeCasts S512x512)
    (hw : ∀ v, w v = shapeCast S512x512 v hc)
    {hl₀ : m.view.LoadsAt (Rect.unit (s := S3x512x512) off₀ S1x512x512.size inb₀).toLoadRect}
    {hl : (Memref.whole cc0_stg1_0).view.LoadsAt (Rect.unit (s := S4096x512) off (⟨2, ![512, 512]⟩ : Shape).size inb).toLoadRect}
    {hx : ((Memref.whole cc0_stg1_0).access (Rect.unit (s := S4096x512) off (⟨2, ![512, 512]⟩ : Shape).size inb)).Stores Finset.univ}
    {hm : (Finset.univ : Finset (⟨2, ![512, 512]⟩ : Shape).Idx) = Finset.univ ∨ ∀ a, (Rect.unit (s := S4096x512) off (⟨2, ![512, 512]⟩ : Shape).size inb).stride a = 1}
    {α : Type} {Q : α → sProp 𝕄} {k : PUnit → Prog (TpuEff nD τ sig (Elt F) Λ₀ .tc) α} :
    iprop(outP G c l ∗ own c (dstM (d, h, 0)) fullShare.right (got G (d, h, 0) c) ∗ own c (dstM (d, h, 1)) fullShare.right (got G (d, h, 1) c))
      ⊢ iprop(((outP G c ((base d (h.val + 1) c, 512) :: l) ∗ own c (dstM (d, h, 0)) fullShare.right (got G (d, h, 0) c)
            ∗ own c (dstM (d, h, 1)) fullShare.right (got G (d, h, 1) c)) -∗ exec c (k ⟨⟩) Q)
        -∗ exec c (.op (.load m (Rect.unit (s := S3x512x512) off₀ S1x512x512.size inb₀).toLoadRect hl₀)
            fun v => .op (.load (Memref.whole cc0_stg1_0) (Rect.unit (s := S4096x512) off (⟨2, ![512, 512]⟩ : Shape).size inb).toLoadRect hl)
              fun _ => .op (.store (Memref.whole cc0_stg1_0) (Rect.unit (s := S4096x512) off (⟨2, ![512, 512]⟩ : Shape).size inb) (w v) Finset.univ hx hm) k) Q) := by
  subst hmem hoff₀
  iintro ⟨Ho, H0, H1⟩ Hk
  ihave H := (hop_join c d h fullShare.right (got G (d, h, 0) c) (got G (d, h, 1) c)) $$ [H0 H1]
  · isplitl [H0] <;> iassumption
  icases H with ⟨%f, %hf, H⟩
  iapply (wp_load 𝒱₀ (c : Thread nD τ) none Set.univ (m := landM d) (Finset.Subset.refl _)) $$ H; iintro H
  iapply (step_put G 512 (base d (h.val + 1) c) l c hoff (hw :=
    (hw _).trans (hop_load G d h (base d (h.val + 1) c) f hc hf.1 hf.2))) $$ Ho
  iintro Ho
  iapply Hk
  isplitl [Ho]; · iexact Ho
  iapply (hop_parts c d h fullShare.right (got G (d, h, 0) c) (got G (d, h, 1) c) f hf.1 hf.2); iexact H

/-- A landed segment copied: one slot, held at its right half, loaded, and its 256 rows stored. -/
theorem step_segment (d : Bool) (h : Fin 3) (s : Fin 2) (l : List (ℕ × ℕ)) (c : Dev nD) {m : Memref sig .tc .vmem S3x512x512 .f32} (hmem : m = landM d)
    {off₀ : Fin 3 → ℕ} (hoff₀ : off₀ = ![h.val, 256 * s.val, 0])
    {inb₀ : ∀ a, off₀ a + S1x256x512.size a ≤ S3x512x512.size a} {off : Fin 2 → ℕ} (hoff : off = ![base d (h.val + 1) c + 256 * s.val, 0])
    {inb : ∀ a, off a + (⟨2, ![256, 512]⟩ : Shape).size a ≤ S4096x512.size a}
    {w : (S1x256x512.Idx → Elt F .f32) → (⟨2, ![256, 512]⟩ : Shape).Idx → Elt F .f32} (hc : S1x256x512.ShapeCasts S256x512)
    (hw : ∀ v, w v = shapeCast S256x512 v hc)
    {hl₀ : m.view.LoadsAt (Rect.unit (s := S3x512x512) off₀ S1x256x512.size inb₀).toLoadRect}
    {hl : (Memref.whole cc0_stg1_0).view.LoadsAt (Rect.unit (s := S4096x512) off (⟨2, ![256, 512]⟩ : Shape).size inb).toLoadRect}
    {hx : ((Memref.whole cc0_stg1_0).access (Rect.unit (s := S4096x512) off (⟨2, ![256, 512]⟩ : Shape).size inb)).Stores Finset.univ}
    {hm : (Finset.univ : Finset (⟨2, ![256, 512]⟩ : Shape).Idx) = Finset.univ ∨ ∀ a, (Rect.unit (s := S4096x512) off (⟨2, ![256, 512]⟩ : Shape).size inb).stride a = 1}
    {α : Type} {Q : α → sProp 𝕄} {k : PUnit → Prog (TpuEff nD τ sig (Elt F) Λ₀ .tc) α} :
    iprop(outP G c l ∗ own c (dstM (d, h, s)) fullShare.right (got G (d, h, s) c))
      ⊢ iprop(((outP G c ((base d (h.val + 1) c + 256 * s.val, 256) :: l) ∗ own c (dstM (d, h, s)) fullShare.right (got G (d, h, s) c)) -∗ exec c (k ⟨⟩) Q)
        -∗ exec c (.op (.load m (Rect.unit (s := S3x512x512) off₀ S1x256x512.size inb₀).toLoadRect hl₀)
            fun v => .op (.load (Memref.whole cc0_stg1_0) (Rect.unit (s := S4096x512) off (⟨2, ![256, 512]⟩ : Shape).size inb).toLoadRect hl)
              fun _ => .op (.store (Memref.whole cc0_stg1_0) (Rect.unit (s := S4096x512) off (⟨2, ![256, 512]⟩ : Shape).size inb) (w v) Finset.univ hx hm) k) Q) := by
  subst hmem hoff₀
  rw [own_slot]
  iintro ⟨Ho, %f, %hf, H⟩ Hk
  iapply (wp_load 𝒱₀ (c : Thread nD τ) none Set.univ (m := landM d) (Finset.Subset.refl _)) $$ H; iintro H
  iapply (step_put G 256 (base d (h.val + 1) c + 256 * s.val) l c hoff (hw :=
    (hw _).trans ((slot_load d h s f hc).trans hf))) $$ Ho
  iintro Ho
  iapply Hk
  isplitl [Ho]; · iexact Ho
  iexists f; isplitr
  · ipureintro; exact hf
  iexact H

end Cert.Gathered

end
-- ==== Proof.Bundles.lean ====
/-
# Buffers held slot by slot, and the transfers two at a time

The kernel always works on a hop's segment in both directions together. This file splits each buffer into the parts the
transfers use and joins it again, gathers what is held for the two directions of one hop and segment (`pair`), and
states the kernel's steps for such a pair.
-/
module

public import proofs.«01_k».proof.Proof.Moves
public import Idealize.ShloMosaic.Lib.Ring

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Landing buffers -/

theorem slots_apart (d : Bool) (y y' : Fin 3 × Fin 2) (h : y ≠ y') :
    Disjoint ((landM d).view.setOn (slotRect y.1 y.2).set) ((landM d).view.setOn (slotRect y'.1 y'.2).set) :=
  (Finset.disjoint_map _).mpr (slots_disjoint y.1 y'.1 y.2 y'.2 h)
theorem slots_cover (d : Bool) : (Finset.univ : Finset (Fin 3 × Fin 2)).biUnion (fun y => (landM d).view.setOn (slotRect y.1 y.2).set) = (landM d).view.set :=
  (Finset.biUnion_congr rfl fun y _ => slot_set d y.1 y.2).trans (dst_cover d)

/-- Any contents of a slot's rows will do for a slot to be overwritten, -/
theorem blank_of_rows (x : Slot) (c : Dev nD) (f : (landM x.1).view.ty.Contents (Elt F)) :
    ((landM x.1).view.loc (c : Thread nD τ) ↦[(landM x.1).view.setOn (slotRect x.2.1 x.2.2).set]{fullShare} f) ⊢ (blank (F := F) x c : sProp 𝕄) := by
  unfold blank
  iintro H
  iexists (dstM x).view.read (Elt F) f
  iapply (Entails.of_eq (own_slot c x.1 x.2.1 x.2.2 fullShare ((dstM x).view.read (Elt F) f)).symm)
  iexists f
  isplitr
  · ipureintro; rfl
  iexact H

/-- and such a slot holds some contents. -/
theorem rows_of_blank (x : Slot) (c : Dev nD) :
    (blank (F := F) x c : sProp 𝕄) ⊢ iprop(∃ f, (landM x.1).view.loc (c : Thread nD τ) ↦[(landM x.1).view.setOn (slotRect x.2.1 x.2.2).set]{fullShare} f) := by
  unfold blank
  iintro ⟨%w, H⟩
  ihave H' := (Entails.of_eq (own_slot c x.1 x.2.1 x.2.2 fullShare w)) $$ H
  icases H' with ⟨%f, -, H'⟩
  iexists f
  iexact H'

/-- A landing buffer is its six slots, -/
theorem room_of_buffer (d : Bool) (c : Dev nD) (f : (landM d).view.ty.Contents (Elt F)) :
    ((landM d).view.loc (c : Thread nD τ) ↦[(landM d).view.set]{fullShare} f) ⊢ (room (F := F) d c : sProp 𝕄) := by
  have e := Ring.pointsTo_sub_blocks (Ix := Unit) (Val := Elt F) (Name := ℕ) (U := UU) (Lvl := ℕ) (ℓ := (landM d).view.loc (c : Thread nD τ))
    (fun y : Fin 3 × Fin 2 => (landM d).view.setOn (slotRect y.1 y.2).set) (slots_apart d) (landM d).view.set (slots_cover d) (q := fullShare) f
  exact (Entails.of_eq e).trans (bigSep_mono fun y _ => blank_of_rows (d, y.1, y.2) c f)

/-- and its six slots are the buffer. -/
theorem buffer_of_room (d : Bool) (c : Dev nD) :
    (room (F := F) d c : sProp 𝕄) ⊢ iprop(∃ f, (landM d).view.loc (c : Thread nD τ) ↦[(landM d).view.set]{fullShare} f) := by
  have hne : Nonempty ((landM d).view.ty.Contents (Elt F)) := ⟨fun _ => Classical.arbitrary _⟩
  obtain ⟨f₀⟩ := hne
  have e := Ring.pointsTo_sub_blocks_join_exists (Ix := Unit) (Val := Elt F) (Name := ℕ) (U := UU) (Lvl := ℕ) (ℓ := (landM d).view.loc (c : Thread nD τ))
    (fun y : Fin 3 × Fin 2 => (landM d).view.setOn (slotRect y.1 y.2).set) (slots_apart d) (landM d).view.set (slots_cover d) (q := fullShare) f₀
  exact (bigSep_mono fun y _ => rows_of_blank (d, y.1, y.2) c).trans e

/-! ## The own block -/

variable (G : S4096x512.Idx → Elt F .f32)

/-- The rows a transfer reads, lent to it or back from it. -/
def lent (x : Slot) (c : Dev nD) : sProp 𝕄 := own c (srcM x) fullShare.left (sent G x c)
/-- A filled slot's other half, kept for copying its rows into the result. -/
def kept (x : Slot) (c : Dev nD) : sProp 𝕄 := own c (dstM x) fullShare.right (got G x c)

/-- The left half of the own block is what the four first hops read, -/
theorem block_lent (c : Dev nD) :
    ((c : Thread nD τ).loc cc0_stg0_0 ↦{fullShare.left} (rowsOf G 1024 (1024 * c.val) : S1024x512.Idx → Elt F .f32))
      = (bigSep Finset.univ fun y : Bool × Fin 2 => lent G (y.1, 0, y.2) c : sProp 𝕄) := by
  refine (Ring.pointsTo_blocks (ℓ := (c : Thread nD τ).loc cc0_stg0_0) (fun y : Bool × Fin 2 => (partRect y.1 y.2).set) part_disjoint part_cover _).trans ?_
  refine congrArg (bigSep Finset.univ) (funext fun y => ?_)
  unfold lent
  rw [← src_read]
  refine BI.Entails.antisymm ?_ ?_
  · rw [← src_set]; exact owns_intro (c : Thread nD τ) (srcM (y.1, 0, y.2)) fullShare.left (rowsOf G 1024 (1024 * c.val))
  · rw [← src_set]; exact own_read c (srcM (y.1, 0, y.2)) fullShare.left (rowsOf G 1024 (1024 * c.val))

/-! ## Both directions of a hop's segment -/

/-- `P` for the transfers of hop `h` and segment `s` in both directions, -/
def pair (P : Slot → sProp 𝕄) (h : Fin 3) (s : Fin 2) : sProp 𝕄 := iprop(P (true, h, s) ∗ P (false, h, s))
/-- and for all twelve transfers. -/
def every (P : Slot → sProp 𝕄) : sProp 𝕄 := bigSep Finset.univ fun y : Fin 3 × Fin 2 => pair P y.1 y.2

theorem every_eq (P : Slot → sProp 𝕄) : every P = iprop(pair P 0 0 ∗ pair P 0 1 ∗ pair P 1 0 ∗ pair P 1 1 ∗ pair P 2 0 ∗ pair P 2 1) := by
  unfold every
  rw [bigSep_univ_eq_bigSepL [(0, 0), (0, 1), (1, 0), (1, 1), (2, 0), (2, 1)] (by decide) (by decide), bigSepL_cons_cons, bigSepL_cons_cons,
    bigSepL_cons_cons, bigSepL_cons_cons, bigSepL_cons_cons, bigSepL_singleton]
  rfl

/-- Two families, one for each direction. -/
theorem every_directions (P : Slot → sProp 𝕄) :
    iprop((bigSep Finset.univ fun y : Fin 3 × Fin 2 => P (true, y.1, y.2)) ∗ bigSep Finset.univ fun y : Fin 3 × Fin 2 => P (false, y.1, y.2)) = every P :=
  (bigSep_sep' _ _ _).symm

theorem every_slot (P : Slot → sProp 𝕄) : (bigSep Finset.univ fun x : Slot => P x) = every P := by
  rw [bigSep_univ_prod, bigSep_univ_eq_bigSepL [true, false] (by decide) (by decide), bigSepL_cons_cons, bigSepL_singleton]
  exact every_directions P

/-- Two families together are taken together. -/
theorem every_sep (P P' : Slot → sProp 𝕄) : every (fun x => iprop(P x ∗ P' x)) = iprop(every P ∗ every P') := by
  rw [← every_slot, ← every_slot, ← every_slot, bigSep_sep']

/-- The slots both neighbours hand over are those the device's transfers fill, -/
theorem rooms_ahead (c : Dev nD) :
    (iprop(room (F := F) true (onto true c) ∗ room (F := F) false (onto false c)) : sProp 𝕄) = every fun x => blank x (onto x.1 c) :=
  every_directions fun x => blank (F := F) x (onto x.1 c)
/-- and its own slots are those of its two landing buffers. -/
theorem rooms_own (c : Dev nD) : (iprop(room (F := F) true c ∗ room (F := F) false c) : sProp 𝕄) = every fun x => blank x c :=
  every_directions fun x => blank (F := F) x c

/-- What the four first hops read, by pairs. -/
theorem block_pairs (c : Dev nD) :
    ((c : Thread nD τ).loc cc0_stg0_0 ↦{fullShare.left} (rowsOf G 1024 (1024 * c.val) : S1024x512.Idx → Elt F .f32))
      = (iprop(pair (fun x => lent G x c) 0 0 ∗ pair (fun x => lent G x c) 0 1) : sProp 𝕄) := by
  rw [block_lent, bigSep_univ_eq_bigSepL [(true, 0), (false, 0), (true, 1), (false, 1)] (by decide) (by decide), bigSepL_cons_cons,
    bigSepL_cons_cons, bigSepL_cons_cons, bigSepL_singleton]
  unfold pair
  have e := Laws.sep_assoc (P := lent G (true, 0, 0) c) (Q := lent G (false, 0, 0) c) (R := iprop(lent G (true, 0, 1) c ∗ lent G (false, 0, 1) c))
  exact BI.Entails.antisymm e.mpr e.mp

end Cert.Gathered

end
-- ==== Proof.Pairs.lean ====
/-
# The kernel's steps, both directions at a time

Each theorem here takes one pair of effects (or of copies) of the kernel, the clockwise one and then the counter-clockwise
one, from what is held before the pair to what is held after it.
-/
module

public import proofs.«01_k».proof.Proof.Bundles

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (G : S4096x512.Idx → Elt F .f32) (K : Dev nD × Ix → ℕ)

/-- A filled slot's half that the next hop, if there is one, reads. -/
def landed (x : Slot) (c : Dev nD) : sProp 𝕄 := own c (dstM x) fullShare.left (got G x c)
/-- A transfer's cell done. -/
def spent (k : Bool) (x : Slot) (c : Dev nD) : sProp 𝕄 := semVal (dcell (k, x) c) 0

/-- What the next hop reads is what has landed. -/
theorem lent_next (d : Bool) (h : Fin 2) (s : Fin 2) (c : Dev nD) : lent G (d, h.succ, s) c = landed G (d, h.castSucc, s) c := by
  fin_cases h <;> rfl

/-- Both directions' transfers of a hop's segment started. -/
theorem pair_start (h : Fin 3) (s : Fin 2) (l : List Slot) (c n n' : Dev nD) (hn : n = onto true c) (hn' : n' = onto false c)
    {src dst src' dst' : Memref sig .tc .vmem S256x512 .f32} (hs : src = srcM (true, h, s)) (hd : dst = dstM (true, h, s))
    (hs' : src' = srcM (false, h, s)) (hd' : dst' = dstM (false, h, s))
    {qs qr qs' qr' : DmaSem sig} (hqs : qs = dsem (false, true, h, s)) (hqr : qr = dsem (true, true, h, s))
    (hqs' : qs' = dsem (false, false, h, s)) (hqr' : qr' = dsem (true, false, h, s))
    {hsc : (dst : Memref sig (Dev.tc n : Thread nD τ).2.kind .vmem S256x512 .f32).view.ref.isScScratch = false}
    {hsrc : src.view.WordExact} {hdst : dst.view.WordExact}
    {hsem : DmaTarget.Typed .vmem (.dma qr) (.remote (Dev.tc n : Thread nD τ) (dst : Memref sig .tc .vmem S256x512 .f32) (.dma qs) hsc)}
    {hsc' : (dst' : Memref sig (Dev.tc n' : Thread nD τ).2.kind .vmem S256x512 .f32).view.ref.isScScratch = false}
    {hsrc' : src'.view.WordExact} {hdst' : dst'.view.WordExact}
    {hsem' : DmaTarget.Typed .vmem (.dma qr') (.remote (Dev.tc n' : Thread nD τ) (dst' : Memref sig .tc .vmem S256x512 .f32) (.dma qs') hsc')}
    {α : Type} {Q : α → sProp 𝕄} {k : PUnit → Prog (TpuEff nD τ sig (Elt F) Λ₀ .tc) α} :
    iprop(records G K ∗ ow (F := F) c (due c ((true, h, s) :: (false, h, s) :: l)) ∗ pair (fun x => lent G x c) h s
        ∗ pair (fun x => blank (F := F) x (onto x.1 c)) h s ∗ pair (fun x => tickets (F := F) x c) h s)
      ⊢ iprop(((ow (F := F) c (due c l) ∗ pair (fun x => flying (F := F) x c) h s) -∗ exec c (k ⟨⟩) Q)
          -∗ exec c (.op (.enqueueDma src (.remote (Dev.tc n : Thread nD τ) dst (.dma qs) hsc) (.dma qr) hsrc hdst hsem)
              fun _ => .op (.enqueueDma src' (.remote (Dev.tc n' : Thread nD τ) dst' (.dma qs') hsc') (.dma qr') hsrc' hdst' hsem') k) Q) := by
  unfold pair lent
  iintro ⟨#HR, HO, ⟨Hl, Hl'⟩, ⟨Hb, Hb'⟩, Ht, Ht'⟩ Hk
  iapply (step_start G K (true, h, s) ((false, h, s) :: l) c n hn hs hd hqs hqr) $$ [HO Hl Hb Ht]
  · isplitr; · iexact HR
    isplitl [HO]; · iexact HO
    isplitl [Hl]; · iexact Hl
    isplitl [Hb] <;> iassumption
  iintro ⟨HO, Hf⟩
  iapply (step_start G K (false, h, s) l c n' hn' hs' hd' hqs' hqr') $$ [HO Hl' Hb' Ht']
  · isplitr; · iexact HR
    isplitl [HO]; · iexact HO
    isplitl [Hl']; · iexact Hl'
    isplitl [Hb'] <;> iassumption
  iintro ⟨HO, Hf'⟩
  iapply Hk
  isplitl [HO]; · iexact HO
  isplitl [Hf] <;> iassumption

/-- Both directions' arrivals of a hop's segment waited for: the slots, filled, in two halves each. -/
theorem pair_arrive (h : Fin 3) (s : Fin 2) (l : List Slot) (hl : ∀ y ∈ l, h < y.2.1) (c : Dev nD) {q q' : DmaSem sig}
    (hq : q = dsem (true, true, h, s)) (hq' : q' = dsem (true, false, h, s))
    {s₁ s₂ s₃ s₄ : Shape} {src : Memref sig .tc .vmem s₁ .f32} {dst : Memref sig .tc .vmem s₂ .f32} {hsrc : src.view.WordExact} {hdst : dst.view.WordExact}
    (hN : dst.view.dmaCredit = N)
    {src' : Memref sig .tc .vmem s₃ .f32} {dst' : Memref sig .tc .vmem s₄ .f32} {hsrc' : src'.view.WordExact} {hdst' : dst'.view.WordExact}
    (hN' : dst'.view.dmaCredit = N)
    {α : Type} {Q : α → sProp 𝕄} {k : PUnit → Prog (TpuEff nD τ sig (Elt F) Λ₀ .tc) α} :
    iprop(records G K ∗ levAts L lv ∗ ow (F := F) c (due c l) ∗ pair (fun x => coming (F := F) x c) h s)
      ⊢ iprop(((ow (F := F) c (due c l) ∗ pair (fun x => landed G x c) h s ∗ pair (fun x => kept G x c) h s
            ∗ pair (fun x => spent (F := F) true x c) h s) -∗ exec c (k ⟨⟩) Q)
          -∗ exec c (.op (.waitDma2 q src dst hsrc hdst) fun _ => .op (.waitDma2 q' src' dst' hsrc' hdst') k) Q) := by
  unfold pair landed kept spent
  iintro ⟨#HR, #HL, HO, Hc, Hc'⟩ Hk
  iapply (step_arrive G K (true, h, s) l hl c hq hN) $$ [HO Hc]
  · isplitr; · iexact HR
    isplitr; · iexact HL
    isplitl [HO] <;> iassumption
  iintro ⟨HO, Hl, Hr, Hz⟩
  iapply (step_arrive G K (false, h, s) l hl c hq' hN') $$ [HO Hc']
  · isplitr; · iexact HR
    isplitr; · iexact HL
    isplitl [HO] <;> iassumption
  iintro ⟨HO, Hl', Hr', Hz'⟩
  iapply Hk
  isplitl [HO]; · iexact HO
  isplitl [Hl Hl']; · isplitl [Hl] <;> iassumption
  isplitl [Hr Hr']; · isplitl [Hr] <;> iassumption
  isplitl [Hz] <;> iassumption

/-- Both directions' departures of a hop's segment waited for: the rows lent come back. -/
theorem pair_depart (h : Fin 3) (s : Fin 2) (c : Dev nD) {q q' : DmaSem sig}
    (hq : q = dsem (false, true, h, s)) (hq' : q' = dsem (false, false, h, s))
    {s₁ s₂ s₃ s₄ : Shape} {src : Memref sig .tc .vmem s₁ .f32} {dst : Memref sig .tc .vmem s₂ .f32} {hsrc : src.view.WordExact} {hdst : dst.view.WordExact}
    (hN : dst.view.dmaCredit = N)
    {src' : Memref sig .tc .vmem s₃ .f32} {dst' : Memref sig .tc .vmem s₄ .f32} {hsrc' : src'.view.WordExact} {hdst' : dst'.view.WordExact}
    (hN' : dst'.view.dmaCredit = N)
    {α : Type} {Q : α → sProp 𝕄} {k : PUnit → Prog (TpuEff nD τ sig (Elt F) Λ₀ .tc) α} :
    iprop(records G K ∗ levAts L lv ∗ ow (F := F) c (due c []) ∗ pair (fun x => flying (F := F) x c) h s)
      ⊢ iprop(((ow (F := F) c (due c []) ∗ pair (fun x => lent G x c) h s ∗ pair (fun x => spent (F := F) false x c) h s) -∗ exec c (k ⟨⟩) Q)
          -∗ exec c (.op (.waitDma2 q src dst hsrc hdst) fun _ => .op (.waitDma2 q' src' dst' hsrc' hdst') k) Q) := by
  unfold pair lent spent
  iintro ⟨#HR, #HL, HO, Hc, Hc'⟩ Hk
  iapply (step_depart G K (true, h, s) c hq hN) $$ [HO Hc]
  · isplitr; · iexact HR
    isplitr; · iexact HL
    isplitl [HO] <;> iassumption
  iintro ⟨HO, Hl, Hz⟩
  iapply (step_depart G K (false, h, s) c hq' hN') $$ [HO Hc']
  · isplitr; · iexact HR
    isplitr; · iexact HL
    isplitl [HO] <;> iassumption
  iintro ⟨HO, Hl', Hz'⟩
  iapply Hk
  isplitl [HO]; · iexact HO
  isplitl [Hl Hl']; · isplitl [Hl] <;> iassumption
  isplitl [Hz] <;> iassumption

/-- A landed hop of both directions copied into the result. -/
theorem pair_hop (h : Fin 3) (l : List (ℕ × ℕ)) (c : Dev nD) {m m' : Memref sig .tc .vmem S3x512x512 .f32} (hmem : m = landM true) (hmem' : m' = landM false)
    {off₀ off₀' : Fin 3 → ℕ} (hoff₀ : off₀ = ![h.val, 0, 0]) (hoff₀' : off₀' = ![h.val, 0, 0])
    {inb₀ : ∀ a, off₀ a + S1x512x512.size a ≤ S3x512x512.size a} {inb₀' : ∀ a, off₀' a + S1x512x512.size a ≤ S3x512x512.size a}
    {off off' : Fin 2 → ℕ} (hoff : off = ![base true (h.val + 1) c, 0]) (hoff' : off' = ![base false (h.val + 1) c, 0])
    {inb : ∀ a, off a + (⟨2, ![512, 512]⟩ : Shape).size a ≤ S4096x512.size a} {inb' : ∀ a, off' a + (⟨2, ![512, 512]⟩ : Shape).size a ≤ S4096x512.size a}
    {w w' : (S1x512x512.Idx → Elt F .f32) → (⟨2, ![512, 512]⟩ : Shape).Idx → Elt F .f32} (hc : S1x512x512.ShapeCasts S512x512)
    (hw : ∀ v, w v = shapeCast S512x512 v hc) (hw' : ∀ v, w' v = shapeCast S512x512 v hc)
    {hl₀ : m.view.LoadsAt (Rect.unit (s := S3x512x512) off₀ S1x512x512.size inb₀).toLoadRect}
    {hl₀' : m'.view.LoadsAt (Rect.unit (s := S3x512x512) off₀' S1x512x512.size inb₀').toLoadRect}
    {hl : (Memref.whole cc0_stg1_0).view.LoadsAt (Rect.unit (s := S4096x512) off (⟨2, ![512, 512]⟩ : Shape).size inb).toLoadRect}
    {hx : ((Memref.whole cc0_stg1_0).access (Rect.unit (s := S4096x512) off (⟨2, ![512, 512]⟩ : Shape).size inb)).Stores Finset.univ}
    {hm : (Finset.univ : Finset (⟨2, ![512, 512]⟩ : Shape).Idx) = Finset.univ ∨ ∀ a, (Rect.unit (s := S4096x512) off (⟨2, ![512, 512]⟩ : Shape).size inb).stride a = 1}
    {hl' : (Memref.whole cc0_stg1_0).view.LoadsAt (Rect.unit (s := S4096x512) off' (⟨2, ![512, 512]⟩ : Shape).size inb').toLoadRect}
    {hx' : ((Memref.whole cc0_stg1_0).access (Rect.unit (s := S4096x512) off' (⟨2, ![512, 512]⟩ : Shape).size inb')).Stores Finset.univ}
    {hm' : (Finset.univ : Finset (⟨2, ![512, 512]⟩ : Shape).Idx) = Finset.univ ∨ ∀ a, (Rect.unit (s := S4096x512) off' (⟨2, ![512, 512]⟩ : Shape).size inb').stride a = 1}
    {α : Type} {Q : α → sProp 𝕄} {k : PUnit → Prog (TpuEff nD τ sig (Elt F) Λ₀ .tc) α} :
    iprop(outP G c l ∗ pair (fun x => kept G x c) h 0 ∗ pair (fun x => kept G x c) h 1)
      ⊢ iprop(((outP G c ((base false (h.val + 1) c, 512) :: (base true (h.val + 1) c, 512) :: l) ∗ pair (fun x => kept G x c) h 0
            ∗ pair (fun x => kept G x c) h 1) -∗ exec c (k ⟨⟩) Q)
        -∗ exec c (.op (.load m (Rect.unit (s := S3x512x512) off₀ S1x512x512.size inb₀).toLoadRect hl₀)
            fun v => .op (.load (Memref.whole cc0_stg1_0) (Rect.unit (s := S4096x512) off (⟨2, ![512, 512]⟩ : Shape).size inb).toLoadRect hl)
              fun _ => .op (.store (Memref.whole cc0_stg1_0) (Rect.unit (s := S4096x512) off (⟨2, ![512, 512]⟩ : Shape).size inb) (w v) Finset.univ hx hm)
                fun _ => .op (.load m' (Rect.unit (s := S3x512x512) off₀' S1x512x512.size inb₀').toLoadRect hl₀')
                  fun v => .op (.load (Memref.whole cc0_stg1_0) (Rect.unit (s := S4096x512) off' (⟨2, ![512, 512]⟩ : Shape).size inb').toLoadRect hl')
                    fun _ => .op (.store (Memref.whole cc0_stg1_0) (Rect.unit (s := S4096x512) off' (⟨2, ![512, 512]⟩ : Shape).size inb') (w' v) Finset.univ hx' hm') k) Q) := by
  unfold pair kept
  iintro ⟨Ho, ⟨H0, H0'⟩, H1, H1'⟩ Hk
  iapply (step_hop G true h l c hmem hoff₀ hoff hc hw) $$ [Ho H0 H1]
  · isplitl [Ho]; · iexact Ho
    isplitl [H0] <;> iassumption
  iintro ⟨Ho, H0, H1⟩
  iapply (step_hop G false h _ c hmem' hoff₀' hoff' hc hw') $$ [Ho H0' H1']
  · isplitl [Ho]; · iexact Ho
    isplitl [H0'] <;> iassumption
  iintro ⟨Ho, H0', H1'⟩
  iapply Hk
  isplitl [Ho]; · iexact Ho
  isplitl [H0 H0']; · isplitl [H0] <;> iassumption
  isplitl [H1] <;> iassumption

/-- A landed segment of both directions copied into the result. -/
theorem pair_segment (h : Fin 3) (s : Fin 2) (l : List (ℕ × ℕ)) (c : Dev nD) {m m' : Memref sig .tc .vmem S3x512x512 .f32} (hmem : m = landM true) (hmem' : m' = landM false)
    {off₀ off₀' : Fin 3 → ℕ} (hoff₀ : off₀ = ![h.val, 256 * s.val, 0]) (hoff₀' : off₀' = ![h.val, 256 * s.val, 0])
    {inb₀ : ∀ a, off₀ a + S1x256x512.size a ≤ S3x512x512.size a} {inb₀' : ∀ a, off₀' a + S1x256x512.size a ≤ S3x512x512.size a}
    {off off' : Fin 2 → ℕ} (hoff : off = ![base true (h.val + 1) c + 256 * s.val, 0]) (hoff' : off' = ![base false (h.val + 1) c + 256 * s.val, 0])
    {inb : ∀ a, off a + (⟨2, ![256, 512]⟩ : Shape).size a ≤ S4096x512.size a} {inb' : ∀ a, off' a + (⟨2, ![256, 512]⟩ : Shape).size a ≤ S4096x512.size a}
    {w w' : (S1x256x512.Idx → Elt F .f32) → (⟨2, ![256, 512]⟩ : Shape).Idx → Elt F .f32} (hc : S1x256x512.ShapeCasts S256x512)
    (hw : ∀ v, w v = shapeCast S256x512 v hc) (hw' : ∀ v, w' v = shapeCast S256x512 v hc)
    {hl₀ : m.view.LoadsAt (Rect.unit (s := S3x512x512) off₀ S1x256x512.size inb₀).toLoadRect}
    {hl₀' : m'.view.LoadsAt (Rect.unit (s := S3x512x512) off₀' S1x256x512.size inb₀').toLoadRect}
    {hl : (Memref.whole cc0_stg1_0).view.LoadsAt (Rect.unit (s := S4096x512) off (⟨2, ![256, 512]⟩ : Shape).size inb).toLoadRect}
    {hx : ((Memref.whole cc0_stg1_0).access (Rect.unit (s := S4096x512) off (⟨2, ![256, 512]⟩ : Shape).size inb)).Stores Finset.univ}
    {hm : (Finset.univ : Finset (⟨2, ![256, 512]⟩ : Shape).Idx) = Finset.univ ∨ ∀ a, (Rect.unit (s := S4096x512) off (⟨2, ![256, 512]⟩ : Shape).size inb).stride a = 1}
    {hl' : (Memref.whole cc0_stg1_0).view.LoadsAt (Rect.unit (s := S4096x512) off' (⟨2, ![256, 512]⟩ : Shape).size inb').toLoadRect}
    {hx' : ((Memref.whole cc0_stg1_0).access (Rect.unit (s := S4096x512) off' (⟨2, ![256, 512]⟩ : Shape).size inb')).Stores Finset.univ}
    {hm' : (Finset.univ : Finset (⟨2, ![256, 512]⟩ : Shape).Idx) = Finset.univ ∨ ∀ a, (Rect.unit (s := S4096x512) off' (⟨2, ![256, 512]⟩ : Shape).size inb').stride a = 1}
    {α : Type} {Q : α → sProp 𝕄} {k : PUnit → Prog (TpuEff nD τ sig (Elt F) Λ₀ .tc) α} :
    iprop(outP G c l ∗ pair (fun x => kept G x c) h s)
      ⊢ iprop(((outP G c ((base false (h.val + 1) c + 256 * s.val, 256) :: (base true (h.val + 1) c + 256 * s.val, 256) :: l)
            ∗ pair (fun x => kept G x c) h s) -∗ exec c (k ⟨⟩) Q)
        -∗ exec c (.op (.load m (Rect.unit (s := S3x512x512) off₀ S1x256x512.size inb₀).toLoadRect hl₀)
            fun v => .op (.load (Memref.whole cc0_stg1_0) (Rect.unit (s := S4096x512) off (⟨2, ![256, 512]⟩ : Shape).size inb).toLoadRect hl)
              fun _ => .op (.store (Memref.whole cc0_stg1_0) (Rect.unit (s := S4096x512) off (⟨2, ![256, 512]⟩ : Shape).size inb) (w v) Finset.univ hx hm)
                fun _ => .op (.load m' (Rect.unit (s := S3x512x512) off₀' S1x256x512.size inb₀').toLoadRect hl₀')
                  fun v => .op (.load (Memref.whole cc0_stg1_0) (Rect.unit (s := S4096x512) off' (⟨2, ![256, 512]⟩ : Shape).size inb').toLoadRect hl')
                    fun _ => .op (.store (Memref.whole cc0_stg1_0) (Rect.unit (s := S4096x512) off' (⟨2, ![256, 512]⟩ : Shape).size inb') (w' v) Finset.univ hx' hm') k) Q) := by
  unfold pair kept
  iintro ⟨Ho, H, H'⟩ Hk
  iapply (step_segment G true h s l c hmem hoff₀ hoff hc hw) $$ [Ho H]
  · isplitl [Ho] <;> iassumption
  iintro ⟨Ho, H⟩
  iapply (step_segment G false h s _ c hmem' hoff₀' hoff' hc hw') $$ [Ho H']
  · isplitl [Ho] <;> iassumption
  iintro ⟨Ho, H'⟩
  iapply Hk
  isplitl [Ho]; · iexact Ho
  isplitl [H] <;> iassumption

/-- A slot both of whose halves are back may be overwritten. -/
theorem pair_blank (h : Fin 3) (s : Fin 2) (c : Dev nD) :
    iprop(pair (fun x => landed G x c) h s ∗ pair (fun x => kept G x c) h s) ⊢ (pair (fun x => blank (F := F) x c) h s : sProp 𝕄) := by
  have e (x : Slot) : iprop(landed G x c ∗ kept G x c) ⊢ (blank (F := F) x c : sProp 𝕄) :=
    (own_join c (dstM x) (got G x c)).trans (own_blank x c _)
  unfold pair
  iintro ⟨⟨Hl, Hl'⟩, Hr, Hr'⟩
  isplitl [Hl Hr]
  · iapply (e (true, h, s)); isplitl [Hl] <;> iassumption
  · iapply (e (false, h, s)); isplitl [Hl'] <;> iassumption

end Cert.Gathered

end
-- ==== Proof.Body.lean ====
/-
# One device's run

The kernel on one device, from what it holds when it starts to what it holds when it is done: the handshake, the four
first hops, the own block copied, the two middle hops each started as soon as its segment has landed, every landed hop
copied, and the wait for all departures.
-/
module

public import proofs.«01_k».proof.Proof.Pairs

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (G : S4096x512.Idx → Elt F .f32) (K : Dev nD × Ix → ℕ)

/-- What a device starts with, besides its slots: its two handshake payments, its place at its own handshake and the
    credit for the two signals, and for each transfer the payments to make and the arrival to expect. -/
def hand (c : Dev nD) : sProp 𝕄 :=
  iprop(dutyTok ER (bcell (onto false c)) 0 true ∗ dutyTok ER (bcell (onto true c)) 0 false ∗ atPos ER (bcell c) 0 ∅ 0
    ∗ cred (tallyAt (bcell c) () 2) ∗ every (fun x => tickets (F := F) x c) ∗ every (fun x => coming (F := F) x c))

/-- What it is left with: every cell done. -/
def done (c : Dev nD) : sProp 𝕄 :=
  iprop(semVal (bcell c) 0 ∗ every (fun x => spent (F := F) false x c) ∗ every (fun x => spent (F := F) true x c))

/-- Every row of the result is in one of the runs copied: the own block, the six hops' halves of the blocks behind and
    ahead. -/
theorem rows_all (c : Dev nD) (i : ℕ) (hi : i < 4096) :
    ∃ p ∈ [(base false 3 c + 256 * 1, 256), (base true 3 c + 256 * 1, 256), (base false 3 c + 256 * 0, 256), (base true 3 c + 256 * 0, 256),
      (base false 2 c, 512), (base true 2 c, 512), (base false 1 c, 512), (base true 1 c, 512), (base true 0 c, 1024)], p.1 ≤ i ∧ i < p.1 + p.2 := by
  simp only [List.mem_cons, List.not_mem_nil, or_false, exists_eq_or_imp, exists_eq_left]
  have hc : c.val < 4 := c.isLt
  unfold base
  simp only [if_true, if_false, Bool.false_eq_true]
  omega

/-- So with those runs copied the result is the gathered rows. -/
theorem out_full (c : Dev nD) :
    outP G c [(base false 3 c + 256 * 1, 256), (base true 3 c + 256 * 1, 256), (base false 3 c + 256 * 0, 256), (base true 3 c + 256 * 0, 256),
      (base false 2 c, 512), (base true 2 c, 512), (base false 1 c, 512), (base true 1 c, 512), (base true 0 c, 1024)]
      ⊢ ((c : Thread nD τ).loc cc0_stg1_0 ↦{fullShare} G : sProp 𝕄) := by
  unfold outP
  iintro ⟨%f, %hf, H⟩
  have e : f = G := funext fun i => hf i (rows_all c (i 0).val (i 0).isLt)
  rw [← e]; iexact H

set_option maxRecDepth 65536 in
set_option maxHeartbeats 4000000 in
/-- The kernel on device `c`, run from its block, its landing buffers and its part of the ledger: the block and the
    buffers are back, every cell is done, nothing is owed, and the result holds the gathered rows. -/
theorem run_body (c : Dev nD) (Q : PUnit → sProp 𝕄) :
    iprop(records G K ∗ levAts L lv ∗ ow (F := F) c (due₀ c) ∗ hand (F := F) c ∗ room (F := F) true c ∗ room (F := F) false c
        ∗ ((c : Thread nD τ).loc cc0_stg0_0 ↦{fullShare} (rowsOf G 1024 (1024 * c.val) : S1024x512.Idx → Elt F .f32))
        ∗ (∃ f : S4096x512.Idx → Elt F .f32, (c : Thread nD τ).loc cc0_stg1_0 ↦{fullShare} f))
      ⊢ iprop(((ow (F := F) c 0 ∗ done (F := F) c ∗ room (F := F) true c ∗ room (F := F) false c
            ∗ ((c : Thread nD τ).loc cc0_stg0_0 ↦{fullShare} (rowsOf G 1024 (1024 * c.val) : S1024x512.Idx → Elt F .f32))
            ∗ ((c : Thread nD τ).loc cc0_stg1_0 ↦{fullShare} G)) -∗ Q ⟨⟩)
          -∗ exec c (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Q) := by
  simp only [cc0_body_eq_skeleton]; unfold cc0_body_skel
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, Prog.bind_assoc, wp_deviceId]
  unfold hand
  rw [every_eq, every_eq]
  iintro ⟨#HR, #HL, HO, ⟨Ht, Hf, Hat, Hc, ⟨T00, T01, T10, T11, T20, T21⟩, C00, C01, C10, C11, C20, C21⟩, Ra, Rb, Hx, %f₀, Hf₀⟩ Hk
  -- the handshake
  iapply (step_signal G K c _ true (dev1_eq c) (due₁ c) _ rfl rfl) $$ [HO Ht Ra]
  · isplitr; · iexact HR
    isplitl [HO]; · iexact HO
    isplitl [Ht]; · iexact Ht
    iexact Ra
  iintro HO
  iapply (step_signal G K c _ false (dev2_eq c) (due c order) _ rfl rfl) $$ [HO Hf Rb]
  · isplitr; · iexact HR
    isplitl [HO]; · iexact HO
    isplitl [Hf]; · iexact Hf
    iexact Rb
  iintro HO
  iapply (step_handshake G K c _ rfl rfl) $$ [HO Hc Hat]
  · isplitr; · iexact HR
    isplitr; · iexact HL
    isplitl [HO]; · iexact HO
    isplitl [Hc] <;> iassumption
  iintro ⟨HO, Ra, Rb, Hz⟩
  ihave Hroom := (Entails.of_eq ((rooms_ahead c).trans (every_eq _))) $$ [Ra Rb]
  · isplitl [Ra] <;> iassumption
  icases Hroom with ⟨B00, B01, B10, B11, B20, B21⟩
  ihave Hxs := (pointsTo_share (PosShare.mem_left_op_right fullShare)).1 $$ Hx
  icases Hxs with ⟨Hxl, Hxr⟩
  ihave Hxl := (Entails.of_eq (block_pairs G c)) $$ Hxl
  icases Hxl with ⟨X0, X1⟩
  ihave Ho := (show ((c : Thread nD τ).loc cc0_stg1_0 ↦{fullShare} f₀ : sProp 𝕄) ⊢ outP G c [] from by
    unfold outP; iintro H; iexists f₀; isplitr; · ipureintro; rintro i ⟨p, hp, -⟩; exact absurd hp List.not_mem_nil
    iexact H) $$ Hf₀
  -- the four first hops, and the own block copied
  iapply (pair_start G K 0 0 (order.drop 2) c _ _ (dev3_eq c) (dev4_eq c) rfl rfl rfl rfl rfl rfl rfl rfl) $$ [HO X0 B00 T00]
  · isplitr; · iexact HR
    isplitl [HO]; · iexact HO
    isplitl [X0]; · iexact X0
    isplitl [B00] <;> iassumption
  iintro ⟨HO, Y00⟩
  iapply (pair_start G K 0 1 (order.drop 4) c _ _ (dev5_eq c) (dev6_eq c) rfl rfl rfl rfl rfl rfl rfl rfl) $$ [HO X1 B01 T01]
  · isplitr; · iexact HR
    isplitl [HO]; · iexact HO
    isplitl [X1]; · iexact X1
    isplitl [B01] <;> iassumption
  iintro ⟨HO, Y01⟩
  iapply (step_block G [] c (by decide) (off1_eq c) (fun v => shapeCast_self v _)) $$ [Ho Hxr]
  · isplitl [Ho] <;> iassumption
  iintro ⟨Ho, Hxr⟩
  -- hop 0: each segment, once landed, passed on; then both copied
  iapply (pair_arrive G K 0 0 (order.drop 4) (by decide) c rfl rfl (dst_credit (true, 0, 0)) (dst_credit (false, 0, 0))) $$ [HO C00]
  · isplitr; · iexact HR
    isplitr; · iexact HL
    isplitl [HO] <;> iassumption
  iintro ⟨HO, A00, R00, Z00⟩
  iapply (pair_start G K 1 0 (order.drop 6) c _ _ (dev7_eq c) (dev8_eq c) rfl rfl rfl rfl rfl rfl rfl rfl) $$ [HO A00 B10 T10]
  · isplitr; · iexact HR
    isplitl [HO]; · iexact HO
    isplitl [A00]; · iexact A00
    isplitl [B10] <;> iassumption
  iintro ⟨HO, Y10⟩
  iapply (pair_arrive G K 0 1 (order.drop 6) (by decide) c rfl rfl (dst_credit (true, 0, 1)) (dst_credit (false, 0, 1))) $$ [HO C01]
  · isplitr; · iexact HR
    isplitr; · iexact HL
    isplitl [HO] <;> iassumption
  iintro ⟨HO, A01, R01, Z01⟩
  iapply (pair_start G K 1 1 (order.drop 8) c _ _ (dev9_eq c) (dev10_eq c) rfl rfl rfl rfl rfl rfl rfl rfl) $$ [HO A01 B11 T11]
  · isplitr; · iexact HR
    isplitl [HO]; · iexact HO
    isplitl [A01]; · iexact A01
    isplitl [B11] <;> iassumption
  iintro ⟨HO, Y11⟩
  iapply (pair_hop G 0 _ c rfl rfl rfl rfl (off2_eq c 0) (off3_eq c 0) shapeCasts_S1x512x512_S512x512 (fun _ => rfl) (fun _ => rfl)) $$ [Ho R00 R01]
  · isplitl [Ho]; · iexact Ho
    isplitl [R00] <;> iassumption
  iintro ⟨Ho, R00, R01⟩
  -- hop 1: each segment, once landed, passed on; then both copied
  iapply (pair_arrive G K 1 0 (order.drop 8) (by decide) c rfl rfl (dst_credit (true, 1, 0)) (dst_credit (false, 1, 0))) $$ [HO C10]
  · isplitr; · iexact HR
    isplitr; · iexact HL
    isplitl [HO] <;> iassumption
  iintro ⟨HO, A10, R10, Z10⟩
  iapply (pair_start G K 2 0 (order.drop 10) c _ _ (dev11_eq c) (dev12_eq c) rfl rfl rfl rfl rfl rfl rfl rfl) $$ [HO A10 B20 T20]
  · isplitr; · iexact HR
    isplitl [HO]; · iexact HO
    isplitl [A10]; · iexact A10
    isplitl [B20] <;> iassumption
  iintro ⟨HO, Y20⟩
  iapply (pair_arrive G K 1 1 (order.drop 10) (by decide) c rfl rfl (dst_credit (true, 1, 1)) (dst_credit (false, 1, 1))) $$ [HO C11]
  · isplitr; · iexact HR
    isplitr; · iexact HL
    isplitl [HO] <;> iassumption
  iintro ⟨HO, A11, R11, Z11⟩
  iapply (pair_start G K 2 1 (order.drop 12) c _ _ (dev13_eq c) (dev14_eq c) rfl rfl rfl rfl rfl rfl rfl rfl) $$ [HO A11 B21 T21]
  · isplitr; · iexact HR
    isplitl [HO]; · iexact HO
    isplitl [A11]; · iexact A11
    isplitl [B21] <;> iassumption
  iintro ⟨HO, Y21⟩
  iapply (pair_hop G 1 _ c rfl rfl rfl rfl (off2_eq c 1) (off3_eq c 1) shapeCasts_S1x512x512_S512x512 (fun _ => rfl) (fun _ => rfl)) $$ [Ho R10 R11]
  · isplitl [Ho]; · iexact Ho
    isplitl [R10] <;> iassumption
  iintro ⟨Ho, R10, R11⟩
  -- the last hop: each segment, once landed, copied
  iapply (pair_arrive G K 2 0 [] (by decide) c rfl rfl (dst_credit (true, 2, 0)) (dst_credit (false, 2, 0))) $$ [HO C20]
  · isplitr; · iexact HR
    isplitr; · iexact HL
    isplitl [HO]; · iexact HO
    iexact C20
  iintro ⟨HO, A20, R20, Z20⟩
  iapply (pair_segment G 2 0 _ c rfl rfl rfl rfl (off4_eq c 0) (off5_eq c 0) shapeCasts_S1x256x512_S256x512 (fun _ => rfl) (fun _ => rfl)) $$ [Ho R20]
  · isplitl [Ho] <;> iassumption
  iintro ⟨Ho, R20⟩
  iapply (pair_arrive G K 2 1 [] (by decide) c rfl rfl (dst_credit (true, 2, 1)) (dst_credit (false, 2, 1))) $$ [HO C21]
  · isplitr; · iexact HR
    isplitr; · iexact HL
    isplitl [HO] <;> iassumption
  iintro ⟨HO, A21, R21, Z21⟩
  iapply (pair_segment G 2 1 _ c rfl rfl rfl rfl (off4_eq c 1) (off5_eq c 1) shapeCasts_S1x256x512_S256x512 (fun _ => rfl) (fun _ => rfl)) $$ [Ho R21]
  · isplitl [Ho] <;> iassumption
  iintro ⟨Ho, R21⟩
  -- every departure
  iapply (pair_depart G K 0 0 c rfl rfl (src_credit (true, 0, 0)) (src_credit (false, 0, 0))) $$ [HO Y00]
  · isplitr; · iexact HR
    isplitr; · iexact HL
    isplitl [HO] <;> iassumption
  iintro ⟨HO, X00, D00⟩
  iapply (pair_depart G K 0 1 c rfl rfl (src_credit (true, 0, 1)) (src_credit (false, 0, 1))) $$ [HO Y01]
  · isplitr; · iexact HR
    isplitr; · iexact HL
    isplitl [HO] <;> iassumption
  iintro ⟨HO, X01, D01⟩
  iapply (pair_depart G K 1 0 c rfl rfl (src_credit (true, 1, 0)) (src_credit (false, 1, 0))) $$ [HO Y10]
  · isplitr; · iexact HR
    isplitr; · iexact HL
    isplitl [HO] <;> iassumption
  iintro ⟨HO, X10, D10⟩
  iapply (pair_depart G K 1 1 c rfl rfl (src_credit (true, 1, 1)) (src_credit (false, 1, 1))) $$ [HO Y11]
  · isplitr; · iexact HR
    isplitr; · iexact HL
    isplitl [HO] <;> iassumption
  iintro ⟨HO, X11, D11⟩
  iapply (pair_depart G K 2 0 c rfl rfl (src_credit (true, 2, 0)) (src_credit (false, 2, 0))) $$ [HO Y20]
  · isplitr; · iexact HR
    isplitr; · iexact HL
    isplitl [HO] <;> iassumption
  iintro ⟨HO, X20, D20⟩
  iapply (pair_depart G K 2 1 c rfl rfl (src_credit (true, 2, 1)) (src_credit (false, 2, 1))) $$ [HO Y21]
  · isplitr; · iexact HR
    isplitr; · iexact HL
    isplitl [HO] <;> iassumption
  iintro ⟨HO, X21, D21⟩
  -- what is left
  unfold exec; rw [wp_ret]; imodintro
  ihave B00 := (pair_blank G 0 0 c) $$ [X10 R00]
  · isplitl [X10]; · iexact X10
    iexact R00
  ihave B01 := (pair_blank G 0 1 c) $$ [X11 R01]
  · isplitl [X11]; · iexact X11
    iexact R01
  ihave B10 := (pair_blank G 1 0 c) $$ [X20 R10]
  · isplitl [X20]; · iexact X20
    iexact R10
  ihave B11 := (pair_blank G 1 1 c) $$ [X21 R11]
  · isplitl [X21]; · iexact X21
    iexact R11
  ihave B20 := (pair_blank G 2 0 c) $$ [A20 R20]
  · isplitl [A20]; · iexact A20
    iexact R20
  ihave B21 := (pair_blank G 2 1 c) $$ [A21 R21]
  · isplitl [A21]; · iexact A21
    iexact R21
  ihave Hrooms := (Entails.of_eq ((rooms_own c).trans (every_eq _)).symm) $$ [B00 B01 B10 B11 B20 B21]
  · isplitl [B00]; · iexact B00
    isplitl [B01]; · iexact B01
    isplitl [B10]; · iexact B10
    isplitl [B11]; · iexact B11
    isplitl [B20]; · iexact B20
    iexact B21
  icases Hrooms with ⟨Ra, Rb⟩
  ihave Hxl := (Entails.of_eq (block_pairs G c).symm) $$ [X00 X01]
  · isplitl [X00] <;> iassumption
  iapply Hk
  isplitl [HO]; · iexact HO
  isplitl [Hz D00 D01 D10 D11 D20 D21 Z00 Z01 Z10 Z11 Z20 Z21]
  · unfold done
    rw [every_eq, every_eq]
    isplitl [Hz]; · iexact Hz
    isplitl [D00 D01 D10 D11 D20 D21]
    · isplitl [D00]; · iexact D00
      isplitl [D01]; · iexact D01
      isplitl [D10]; · iexact D10
      isplitl [D11]; · iexact D11
      isplitl [D20]; · iexact D20
      iexact D21
    isplitl [Z00]; · iexact Z00
    isplitl [Z01]; · iexact Z01
    isplitl [Z10]; · iexact Z10
    isplitl [Z11]; · iexact Z11
    isplitl [Z20]; · iexact Z20
    iexact Z21
  isplitl [Ra]; · iexact Ra
  isplitl [Rb]; · iexact Rb
  isplitl [Hxl Hxr]
  · iapply (pointsTo_share (PosShare.mem_left_op_right fullShare)).2
    isplitl [Hxl] <;> iassumption
  iapply (out_full G c); iexact Ho

end Cert.Gathered

end
-- ==== Proof.Data.lean ====
/-
# The whole array, and the body met

The array every device ends with: device `c`'s block at rows `1024 c` to `1024 c + 1023`. With it, what a device holds
before and after the body runs, and the proof that the body takes the one to the other.
-/
module

public import proofs.«01_k».proof.Proof.Body
public import Idealize.ShloMosaic.Lib.Pipeline.Launch

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ) (ρ : Dev nD → PrngReg)

/-- The machine at the start: the memory given, every counter at zero. -/
abbrev atStart : MemSt nD τ sig (Elt F) := ⟨m, fun _ => 0, ρ⟩

/-- Device `c`'s block, as it lies in its argument. -/
def block (c : Dev nD) : S1024x512.Idx → Elt F .f32 := m ((c : Thread nD τ).loc main_arg0)

/-- The four blocks one below the other. -/
def gathered : S4096x512.Idx → Elt F .f32 := fun i =>
  block m ⟨(i 0).val / 1024, by have h : (i 0).val < 4096 := (i 0).isLt; show _ < 4; omega⟩
    (Shape.pair (d := ![1024, 512]) ⟨(i 0).val % 1024, Nat.mod_lt _ (by decide)⟩ (i 1))

/-- Device `c`'s rows of the whole are its block. -/
theorem rows_gathered (c : Dev nD) : (rowsOf (gathered m) 1024 (1024 * c.val) : S1024x512.Idx → Elt F .f32) = block m c := by
  funext i
  have hc : c.val < 4 := c.isLt
  have hi : (i 0).val < 1024 := (i 0).isLt
  have hr : (spot (1024 * c.val + (i 0).val) (i 1) 0).val = 1024 * c.val + (i 0).val := Nat.mod_eq_of_lt (by omega)
  unfold rowsOf gathered
  have hd : (⟨(spot (1024 * c.val + (i 0).val) (i 1) 0).val / 1024, by rw [hr]; show _ < 4; omega⟩ : Dev nD) = c :=
    Fin.ext (by show (spot (1024 * c.val + (i 0).val) (i 1) 0).val / 1024 = c.val; rw [hr]; omega)
  have hm : (⟨(spot (1024 * c.val + (i 0).val) (i 1) 0).val % 1024, Nat.mod_lt _ (by decide)⟩ : Fin 1024) = i 0 :=
    Fin.ext (by show (spot (1024 * c.val + (i 0).val) (i 1) 0).val % 1024 = (i 0).val; rw [hr]; omega)
  exact (congrArg₂ (fun d r => block m d (Shape.pair (d := ![1024, 512]) r (i 1))) hd hm).trans
    (congrArg (block m c) (Shape.pair_eta (d := ![1024, 512]) i))

/-- The argument's one staged block is the whole of it. -/
theorem staged (c : Dev nD) : (win0_0.blk (0 : Fin 1)).view.read (Elt F) (m ((c : Thread nD τ).loc main_arg0)) = block m c :=
  Memref.read_access_unit_zero (Elt F) main_arg0 (funext fun a => by fin_cases a <;> decide) (fun a => by fin_cases a <;> decide) _

/-! ## Before and after the body -/

/-- The handshake's semaphore is none of the transfers'. -/
theorem kinds_apart (q : DmaSem sig) : (SemLoc.reg bsem : SemLoc sig) ≠ .dma q := fun h => by cases h

/-- What a device enters the region with, besides its buffers. -/
def begin (c : Dev nD) : sProp 𝕄 := iprop((∃ K, records (gathered m) K ∗ hand (F := F) c) ∗ levAts L lv)
/-- Before the body: that, and the slots of both landing buffers. -/
def before (c : Dev nD) : sProp 𝕄 := iprop(begin m c ∗ room (F := F) true c ∗ room (F := F) false c)
/-- After it: every cell done, and the slots. -/
def after (c : Dev nD) : sProp 𝕄 := iprop(done (F := F) c ∗ room (F := F) true c ∗ room (F := F) false c)

theorem points : cfg0.N = 1 := by decide
/-- The one point. -/
def pt : Fin cfg0.N := ⟨0, by rw [points]; decide⟩
theorem eq_pt (t : Fin cfg0.N) : t = pt := Fin.ext (by have := t.isLt; have := points; show t.val = 0; omega)

/-- The region's proof data: the staged block is only read, the staged result ends as the whole array. -/
def dats (_ : Fin 1) (c : Dev nD) : Dat τ (Elt F) Unit ℕ UU ℕ cfg0 c where
  A w := m ((cfg0.win w).arr.view.loc (c : Thread nD τ))
  after w _ := match w with
    | ⟨0, _⟩ => block m c
    | ⟨1, _⟩ => gathered m
  Φ t := match t with
    | ⟨0, _⟩ => before m c
    | ⟨_ + 1, _⟩ => after c
  q _ := fullShare
  owed t := match t with
    | ⟨0, _⟩ => due₀ c
    | ⟨_ + 1, _⟩ => 0

theorem hold_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer with its contents known, and one with its contents unknown. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem fetched (t : Fin cfg0.N) : (cfg0.win (0 : Fin 2)).fetch t = true := by rw [eq_pt t]; rfl

theorem staged_before (c : Dev nD) (d) : (dats m 0 c).before (0 : Fin 2) pt d = block m c := by
  unfold Dat.before; rw [if_pos (fetched pt)]; exact staged m c

/-- What the region holds when the body starts. -/
def entry (c : Dev nD) : sProp 𝕄 :=
  iprop(before m c ∗ (dats m 0 c).owesAt () pt.castSucc
    ∗ (∃ d, holds c cc0_stg0_0 ((dats m 0 c).before (0 : Fin 2) pt d))
    ∗ (∃ d, holds c cc0_stg1_0 ((dats m 0 c).before (1 : Fin 2) pt d)))
/-- What it must hold when the body is done. -/
def leave (c : Dev nD) : sProp 𝕄 :=
  iprop(after c ∗ (dats m 0 c).owesAt () pt.succ ∗ holds c cc0_stg0_0 (block m c) ∗ holds c cc0_stg1_0 (gathered m))

theorem owes_entry (c : Dev nD) : (dats m 0 c).owesAt () pt.castSucc ⊢ (ow c (due₀ c) : sProp 𝕄) := by
  unfold Dat.owesAt Pipeline.owesWithin ow
  iintro ⟨%W, -, H⟩
  iexists W; iexact H
theorem owes_leave (c : Dev nD) : ow c 0 ⊢ ((dats m 0 c).owesAt () pt.succ : sProp 𝕄) := by
  unfold Dat.owesAt Pipeline.owesWithin ow
  iintro ⟨%W, H⟩
  iexists W; isplitr; · ipureintro; exact fun _ _ => Or.inl trivial
  iexact H

set_option maxRecDepth 8000 in
/-- The body keeps the region's promise. -/
theorem body_kept (c : Dev nD) : BodyObligation (dats (F := F) m 0 c) (defs₀ (F := F)) 𝒱₀ () Set.univ := fun t => by
  rw [eq_pt t, bigSep_W0, bigSep_W0]
  simp only [hold_whole]
  show entry m c ⊢ exec c (cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5) fun _ => leave m c
  unfold entry before begin
  simp only [staged_before]
  iintro ⟨⟨⟨⟨%K, #HR, Hh⟩, #HL⟩, Ra, Rb⟩, Ho, ⟨%d, %f, %hf, Hx⟩, ⟨%d', %f', %hf', Hy⟩⟩
  ihave Ho := (owes_entry m c) $$ Ho
  iapply (run_body (gathered m) K c fun _ => leave m c) $$ [Hh Ra Rb Ho Hx Hy]
  · isplitr; · iexact HR
    isplitr; · iexact HL
    isplitl [Ho]; · iexact Ho
    isplitl [Hh]; · iexact Hh
    isplitl [Ra]; · iexact Ra
    isplitl [Rb]; · iexact Rb
    isplitl [Hx]
    · rw [rows_gathered, ← hf]; iexact Hx
    iexists f'; iexact Hy
  iintro ⟨Ho, Hd, Ra, Rb, Hx, Hy⟩
  unfold leave after
  isplitl [Hd Ra Rb]
  · isplitl [Hd]; · iexact Hd
    isplitl [Ra] <;> iassumption
  isplitl [Ho]; · iapply (owes_leave m c); iexact Ho
  isplitl [Hx]
  · iexists _; isplitr; · (ipureintro; exact rows_gathered m c)
    iexact Hx
  iexists _; isplitr; · (ipureintro; rfl)
  iexact Hy

end Cert.Gathered

end
-- ==== Proof.Credit.lean ====
/-
# What every device owes at the start, and the credit for it

Summed over the devices, two units are owed to each device's handshake and one transfer's worth to each of its
arrivals; so each device starts with the credit for exactly that.
-/
module

public import proofs.«01_k».proof.Proof.Data

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- One semaphore's cells on two devices are the same only if the devices are. -/
theorem cell_inj {a b : Dev nD} {sm sm' : SemLoc sig} (h : (((a : Thread nD τ), sm) : GSem nD τ sig) = ((b : Thread nD τ), sm')) : a = b ∧ sm = sm' :=
  ⟨Fin.ext (congrArg (fun g : GSem nD τ sig => g.1.1.val) h), congrArg Prod.snd h⟩

/-- The device that `d` counts on as its next is the one whose previous is `d`. -/
theorem onto_eq_iff (b : Bool) (d c : Dev nD) : c = onto b d ↔ d = onto (!b) c :=
  ⟨fun h => by rw [h, back_onto], fun h => by rw [h, onto_back]⟩

/-- Summed over all devices, an amount owed to each one's next is owed once to each. -/
theorem sum_onto (b : Bool) (c : Dev nD) (n : ℕ) : (Finset.univ.sum fun d : Dev nD => if c = onto b d then n else 0) = n := by
  rw [Finset.sum_congr rfl fun d _ => if_congr (onto_eq_iff b d c) rfl rfl, Finset.sum_ite_eq', if_pos (Finset.mem_univ _)]

theorem tally_apply (d c : Dev nD) (sm sm' : SemLoc sig) (n : ℕ) :
    (tallyAt ((d : Thread nD τ), sm') () n : CellTallies nD τ sig Unit) ((c : Thread nD τ), sm) () = if sm = sm' then (if c = d then n else 0) else 0 := by
  rw [tallyAt_apply, ← ite_and]
  exact if_congr ⟨fun h => ⟨(cell_inj h.1).2, (cell_inj h.1).1⟩, fun h => ⟨by rw [h.1, h.2], rfl⟩⟩ rfl rfl

/-- Of the transfers still to start, an arrival is owed by those of its name. -/
theorem due_recv (d c : Dev nD) (x : Slot) (l : List Slot) :
    due d l (dcell (true, x) c) () = l.count x * (if c = onto x.1 d then N else 0) := by
  induction l with
  | nil => rw [List.count_nil, Nat.zero_mul]; rfl
  | cons y l ih =>
    unfold due
    rw [Pi.add_apply, Finsupp.add_apply, ih, tally_apply, List.count_cons]
    by_cases h : x = y
    · subst h; rw [if_pos rfl, if_pos (beq_self_eq_true x), Nat.add_mul, Nat.one_mul]
    · rw [if_neg fun h' => h (congrArg Prod.snd (dsem_injective (SemLoc.dma.inj h'))), if_neg fun h' => h (eq_of_beq h').symm, Nat.add_zero, Nat.add_zero]
/-- A handshake is owed nothing by them. -/
theorem due_bar (d c : Dev nD) (l : List Slot) : due d l (bcell c) () = 0 := by
  by_contra h
  obtain ⟨x, -, hx⟩ := due_pos (Nat.pos_of_ne_zero h)
  exact kinds_apart _ (cell_inj hx).2

theorem order_once : ∀ x : Slot, order.count x = 1 := by decide

theorem owed_recv (d c : Dev nD) (x : Slot) : due₀ d (dcell (true, x) c) () = if c = onto x.1 d then N else 0 := by
  unfold due₀ due₁
  rw [Pi.add_apply, Finsupp.add_apply, Pi.add_apply, Finsupp.add_apply, due_recv, order_once, tally_apply, tally_apply,
    if_neg (kinds_apart _).symm, if_neg (kinds_apart _).symm, Nat.one_mul, Nat.add_zero]
theorem owed_bar (d c : Dev nD) : due₀ d (bcell c) () = (if c = onto true d then 1 else 0) + (if c = onto false d then 1 else 0) := by
  unfold due₀ due₁
  rw [Pi.add_apply, Finsupp.add_apply, Pi.add_apply, Finsupp.add_apply, due_bar, tally_apply, tally_apply, if_pos rfl, if_pos rfl, Nat.zero_add]

/-- Each device's share of the credit: two units at its handshake, -/
theorem share_bar (c : Dev nD) :
    tallyOn (bcell c) (launchCredit (Pipeline.owing due₀) 0 (bcell c)) = (tallyAt (bcell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, sum_onto, sum_onto]
/-- and a transfer's worth at each arrival. -/
theorem share_recv (c : Dev nD) (x : Slot) :
    tallyOn (dcell (true, x) c) (launchCredit (Pipeline.owing due₀) 0 (dcell (true, x) c)) = (tallyAt (dcell (true, x) c) () N : CellTallies nD τ sig Unit) := by
  unfold tallyAt; refine congrArg _ (Finsupp.ext fun u => ?_); cases u
  rw [Pipeline.launchCredit_owing, Finsupp.single_eq_same, Finset.sum_congr rfl fun d _ => owed_recv d c x, sum_onto]

/-- The arrivals' semaphores. -/
def recvSem : Slot ↪ SemLoc sig := ⟨fun x => .dma (dsem (true, x)), fun x y h => congrArg Prod.snd (dsem_injective (SemLoc.dma.inj h))⟩

/-- So the launch gives each device that credit. -/
theorem credit (c : Dev nD) :
    (Pipeline.launchCred due₀ c : sProp 𝕄) ⊢ iprop(cred (tallyAt (bcell c) () 2) ∗ every fun x => cred (tallyAt (dcell (true, x) c) () N)) := by
  unfold Pipeline.launchCred
  rw [bigSep_univ_at _ (SemLoc.reg bsem)]
  have hsub : (Finset.univ : Finset Slot).map recvSem ⊆ Finset.univ.erase (SemLoc.reg bsem) := fun s hs => by
    obtain ⟨x, -, rfl⟩ := Finset.mem_map.mp hs
    exact Finset.mem_erase.mpr ⟨(kinds_apart _).symm, Finset.mem_univ _⟩
  refine BI.sep_mono (Entails.of_eq (congrArg cred (share_bar c))) ((bigSep_subset hsub).trans ?_)
  rw [bigSep_map, ← every_slot]
  exact bigSep_mono fun x _ => Entails.of_eq (congrArg cred (share_recv c x))

end Cert.Gathered

end
-- ==== Proof.Ledger.lean ====
/-
# The ledger set up

At the start every semaphore's counter becomes a cell that keeps the schedule. Each cell's payments are dealt to the
devices that make them: a handshake's to the two neighbours, a departure's to the device itself, an arrival's to the
sender. The records of all cells are shared by every device.
-/
module

public import proofs.«01_k».proof.Proof.Data

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (G : S4096x512.Idx → Elt F .f32)

/-! ## The cells and the payments -/

/-- The transfers' semaphores, which the kernel declares. -/
abbrev own_sem (k : Bool × Slot) : SemLoc sig := .dma (dsem k)

theorem semOf_injective : Function.Injective semOf := by
  rintro (⟨⟩ | k) (⟨⟩ | k') h
  · rfl
  · exact absurd h (kinds_apart _)
  · exact absurd h (kinds_apart _).symm
  · exact congrArg Sum.inr (dsem_injective (SemLoc.dma.inj h))
theorem cellAt_injective : Function.Injective cellAt := by
  rintro ⟨c, i⟩ ⟨c', i'⟩ h
  have h1 : c = c' := Fin.ext (congrArg (fun g : GSem nD τ sig => g.1.1.val) h)
  have h2 : i = i' := semOf_injective (congrArg Prod.snd h)
  rw [h1, h2]
/-- Every device's cells. -/
def cells : Finset (GSem nD τ sig) := Finset.univ.map ⟨cellAt, cellAt_injective⟩

/-- Which payment of a device's cells: one of the handshake's two, or a transfer's. -/
abbrev Pay := Bool ⊕ Bool × Slot
def payAt (p : Dev nD × Pay) : GSem nD τ sig × ℕ × Bool := match p.2 with
  | .inl d => (bcell p.1, 0, d)
  | .inr k => (dcell k p.1, 0, false)
theorem payAt_injective : Function.Injective payAt := by
  rintro ⟨c, i⟩ ⟨c', i'⟩ h
  have h1 : c = c' := by
    refine Fin.ext ?_
    have := congrArg (fun x : GSem nD τ sig × ℕ × Bool => x.1.1.1.val) h
    rcases i with d | k <;> rcases i' with d' | k' <;> exact this
  subst h1
  rcases i with d | k <;> rcases i' with d' | k'
  · have : d = d' := congrArg (fun x : GSem nD τ sig × ℕ × Bool => x.2.2) h
    rw [this]
  · exact absurd (congrArg (fun x : GSem nD τ sig × ℕ × Bool => x.1.2) h) (kinds_apart _)
  · exact absurd (congrArg (fun x : GSem nD τ sig × ℕ × Bool => x.1.2) h) (kinds_apart _).symm
  · have : dsem k = dsem k' := SemLoc.dma.inj (congrArg (fun x : GSem nD τ sig × ℕ × Bool => x.1.2) h)
    rw [dsem_injective this]
/-- Every payment of every cell. -/
def pays : Finset (GSem nD τ sig × ℕ × Bool) := Finset.univ.map ⟨payAt, payAt_injective⟩

/-- The ledger's first state, beside the staging's own. -/
def u₀ : UU := (initOf (Pipeline.cells cfgs cellOf_inj) (Pipeline.launchToks cfgs cellOf_inj), initOf cells pays)

/-- A device's cells are its handshake's and the transfers'; -/
theorem by_kind (Φ : Ix → sProp 𝕄) : bigSep Finset.univ Φ = iprop(Φ (.inl ()) ∗ bigSep Finset.univ fun k : Bool × Slot => Φ (.inr k)) := by
  rw [bigSep_univ_sum, Finset.univ_unique, bigSep_singleton]; rfl
/-- and the transfers' the departures' and the arrivals'. -/
theorem by_end (Φ : Bool × Slot → sProp 𝕄) : bigSep Finset.univ Φ = iprop((every fun x => Φ (false, x)) ∗ every fun x => Φ (true, x)) := by
  rw [bigSep_univ_prod, bigSep_univ_eq_bigSepL [false, true] (by decide) (by decide), bigSepL_cons_cons, bigSepL_singleton, every_slot, every_slot]; rfl

/-- A device's cells' payments, as they are made out, -/
def made (c : Dev nD) : sProp 𝕄 :=
  iprop((dutyTok ER (bcell c) 0 true ∗ dutyTok ER (bcell c) 0 false)
    ∗ every (fun x => dutyTok ER (dcell (false, x) c) 0 false) ∗ every (fun x => dutyTok ER (dcell (true, x) c) 0 false))
/-- and those it is dealt, to make. -/
def dealt (c : Dev nD) : sProp 𝕄 :=
  iprop((dutyTok ER (bcell (onto false c)) 0 true ∗ dutyTok ER (bcell (onto true c)) 0 false)
    ∗ every (fun x => dutyTok ER (dcell (false, x) c) 0 false) ∗ every (fun x => dutyTok ER (dcell (true, x) (onto x.1 c)) 0 false))

theorem pays_made : bigSep pays (fun x => (dutyTok ER x.1 x.2.1 x.2.2 : sProp 𝕄)) = bigSep Finset.univ fun c : Dev nD => made c := by
  unfold pays
  rw [bigSep_map, bigSep_univ_prod]
  refine bigSep_congr fun c _ => ?_
  unfold made
  rw [bigSep_univ_sum, bigSep_univ_eq_bigSepL [true, false] (by decide) (by decide), bigSepL_cons_cons, bigSepL_singleton, by_end]
  rfl

/-- Taken over all devices, every transfer's arrival at the device it goes to. -/
theorem arrivals_round (Φ : Slot → Dev nD → sProp 𝕄) :
    (bigSep Finset.univ fun c : Dev nD => every fun x => Φ x c) = bigSep Finset.univ fun c : Dev nD => every fun x => Φ x (onto x.1 c) := by
  have e : ∀ Ψ : Slot → Dev nD → sProp 𝕄, (bigSep Finset.univ fun c : Dev nD => every fun x => Ψ x c)
      = bigSep Finset.univ fun p : Dev nD × Slot => Ψ p.2 p.1 := fun Ψ => by
    rw [bigSep_univ_prod]; exact bigSep_congr fun c _ => (every_slot fun x => Ψ x c).symm
  rw [e, e fun x c => Φ x (onto x.1 c)]
  exact bigSep_univ_equiv ⟨fun p => (onto p.2.1 p.1, p.2), fun p => (onto (!p.2.1) p.1, p.2),
    fun p => Prod.ext (back_onto p.2.1 p.1) rfl, fun p => Prod.ext (onto_back p.2.1 p.1) rfl⟩ fun p : Dev nD × Slot => Φ p.2 p.1

/-- The payments dealt. -/
theorem deal : (bigSep Finset.univ fun c : Dev nD => (made c : sProp 𝕄)) ⊢ bigSep Finset.univ fun c : Dev nD => dealt c := by
  unfold made dealt
  simp only [bigSep_sep']
  rw [arrivals_round fun x c => dutyTok ER (dcell (true, x) c) 0 false,
    bigSep_univ_equiv (turn false) (fun c : Dev nD => (dutyTok ER (bcell c) 0 true : sProp 𝕄)),
    bigSep_univ_equiv (turn true) (fun c : Dev nD => (dutyTok ER (bcell c) 0 false : sProp 𝕄))]
  exact .rfl

/-! ## From the first state to the devices' parts -/

/-- What the first state gives a device: its cells' states and places, and their payments. -/
def minted (c : Dev nD) : sProp 𝕄 :=
  iprop((bigSep Finset.univ fun i : Ix => roundState ER (Rd G) (cellAt (c, i)) 0)
    ∗ ((bigSep Finset.univ fun i : Ix => atPos ER (cellAt (c, i)) 0 ∅ 0) ∗ bigSep Finset.univ fun i : Ix => reached ER (cellAt (c, i)) 0) ∗ made c)

theorem mint : BI.own (ER (initOf cells pays)) ⊢ (|==> bigSep Finset.univ (minted G) : sProp 𝕄) := by
  have hc (Φ : GSem nD τ sig → sProp 𝕄) : bigSep cells Φ = bigSep Finset.univ fun c : Dev nD => bigSep Finset.univ fun i : Ix => Φ (cellAt (c, i)) := by
    unfold cells; rw [bigSep_map, bigSep_univ_prod]; rfl
  iintro H
  imod (Rounds.fund ER (Rd G) cells pays) $$ H with ⟨Hs, Hr, Hp, Ht⟩
  imodintro
  ihave Hs := (Entails.of_eq (hc fun g => roundState ER (Rd G) g 0)) $$ Hs
  ihave Hp := (Entails.of_eq (hc fun g => atPos ER g 0 ∅ 0)) $$ Hp
  ihave Hr := (Entails.of_eq (hc fun g => reached ER g 0)) $$ Hr
  ihave Ht := (Entails.of_eq pays_made) $$ Ht
  unfold minted; simp only [bigSep_sep']
  isplitl [Hs]; · iexact Hs
  isplitl [Hp Hr]
  · isplitl [Hp] <;> iassumption
  iexact Ht

/-- A device's counters, all at zero. -/
theorem counters_eq (c : Dev nD) :
    (iprop(Pipeline.ownSems0 (Ix := Unit) (Name := ℕ) (U := UU) (Lvl := ℕ) (Val := Elt F) (τ := τ) own_sem c ∗ unscopedSems0 c) : sProp 𝕄)
      ⊢ bigSep Finset.univ fun i : Ix => semVal (cellAt (c, i)) 0 := by
  rw [by_kind]
  unfold Pipeline.ownSems0 unscopedSems0
  rw [bigSep_eq_bigSepL_of_eq [SemLoc.reg bsem] (by decide) (by decide), bigSepL_singleton]
  iintro ⟨Ho, Hu⟩
  isplitl [Hu]; · iexact Hu
  iexact Ho

/-- What every cell opened leaves a device: a name under which each of its cells is kept, its places, its payments. -/
def opened (c : Dev nD) : sProp 𝕄 :=
  iprop((bigSep Finset.univ fun i : Ix => iprop(∃ κ : ℕ, cellInv ER (Rd G) κ (cellAt (c, i))))
    ∗ ((bigSep Finset.univ fun i : Ix => atPos ER (cellAt (c, i)) 0 ∅ 0) ∗ bigSep Finset.univ fun i : Ix => reached ER (cellAt (c, i)) 0) ∗ made c)

theorem open_cells (c : Dev nD) :
    iprop(Pipeline.ownSems0 (Ix := Unit) (Name := ℕ) (U := UU) (Lvl := ℕ) (Val := Elt F) (τ := τ) own_sem c ∗ unscopedSems0 c ∗ minted G c)
      ⊢ |={Set.univ}=> opened G c := by
  unfold minted opened
  iintro ⟨Ho, Hu, Hs, Hrest⟩
  ihave Hv := (counters_eq (F := F) c) $$ [Ho Hu]
  · isplitl [Ho] <;> iassumption
  have alloc : iprop((bigSep Finset.univ fun i : Ix => semVal (cellAt (c, i)) 0) ∗ bigSep Finset.univ fun i : Ix => roundState ER (Rd G) (cellAt (c, i)) 0)
      ⊢ (|={Set.univ}=> bigSep Finset.univ fun i : Ix => iprop(∃ κ : ℕ, cellInv ER (Rd G) κ (cellAt (c, i))) : sProp 𝕄) := by
    rw [← bigSep_sep']
    exact (bigSep_mono fun i _ => (Rounds.body_intro ER (Rd G) (cellAt (c, i))).trans inv_alloc).trans (bigSep_fupd _ _)
  imod alloc $$ [Hv Hs] with Hi
  · isplitl [Hv] <;> iassumption
  imodintro
  isplitl [Hi] <;> iassumption

/-- A device's own part: its places and the payments dealt it. -/
def part (c : Dev nD) : sProp 𝕄 := iprop((bigSep Finset.univ fun i : Ix => atPos ER (cellAt (c, i)) 0 ∅ 0) ∗ dealt c)
/-- With it, the records everyone shares. -/
def ready (c : Dev nD) : sProp 𝕄 := iprop(∃ K, records G K ∗ part (F := F) c)

/-- What everyone shares goes to each. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out : (bigSep Finset.univ fun c : Dev nD => opened G c) ⊢ bigSep Finset.univ fun c : Dev nD => ready G c := by
  unfold opened
  simp only [bigSep_sep' (Finset.univ : Finset (Dev nD))]
  rw [← bigSep_univ_prod (fun p : Dev nD × Ix => iprop(∃ κ : ℕ, cellInv ER (Rd G) κ (cellAt p))),
    ← bigSep_univ_prod (fun p : Dev nD × Ix => (reached ER (cellAt p) 0 : sProp 𝕄))]
  iintro ⟨HI, ⟨Hp, #HR⟩, Ht⟩
  ihave HK := (BI.bigSep_exists_pi Finset.univ (fun (p : Dev nD × Ix) (κ : ℕ) => (cellInv ER (Rd G) κ (cellAt p) : sProp 𝕄))) $$ HI
  icases HK with ⟨%K, #HI⟩
  ihave Ht := (deal (F := F)) $$ Ht
  have each : ∀ c ∈ (Finset.univ : Finset (Dev nD)), iprop(records G K ∗ part (F := F) c) ⊢ ready G c := fun c _ => by
    unfold ready; iintro H; iexists K; iexact H
  iapply (to_each each)
  isplitr
  · unfold records; isplitl; · iexact HI
    iexact HR
  unfold part; rw [bigSep_sep']
  isplitl [Hp] <;> iassumption

/-- The whole set-up. -/
theorem set_up : (bigSep Finset.univ fun c => iprop(Pipeline.ownSems0 (Ix := Unit) (Name := ℕ) (U := UU) (Lvl := ℕ) (Val := Elt F) (τ := τ) own_sem c ∗ unscopedSems0 c ∗ minted G c) : sProp 𝕄)
    ⊢ |={Set.univ}=> bigSep Finset.univ (ready G) :=
  ((bigSep_mono fun c _ => open_cells G c).trans (bigSep_fupd _ _)).trans (BI.fupd_mono (share_out G))

/-- A device's part, with its credit, is what its run starts from. -/
theorem hand_of (c : Dev nD) :
    iprop(part (F := F) c ∗ cred (tallyAt (bcell c) () 2) ∗ every (fun x => cred (tallyAt (dcell (true, x) c) () N))) ⊢ hand (F := F) c := by
  unfold part dealt hand tickets coming
  rw [by_kind, by_end]
  simp only [every_sep]
  iintro ⟨⟨⟨Ha, Hs, Hr⟩, ⟨Ht, Hf⟩, Hd, Hv⟩, Hc, Hcs⟩
  isplitl [Ht]; · iexact Ht
  isplitl [Hf]; · iexact Hf
  isplitl [Ha]; · iexact Ha
  isplitl [Hc]; · iexact Hc
  isplitl [Hd Hv Hs]
  · isplitl [Hd]; · iexact Hd
    isplitl [Hv]; · iexact Hv
    iexact Hs
  isplitl [Hcs]; · iexact Hcs
  iexact Hr

end Cert.Gathered

end
-- ==== Proof.Run.lean ====
/-
# The whole run

The launch of the kernel on all four devices: each ends with its argument as it was, its result the four blocks one
below the other, and every counter at zero.
-/
module

public import proofs.«01_k».proof.Proof.Credit
public import proofs.«01_k».proof.Proof.Ledger
public import Idealize.ShloMosaic.Lib.Pipeline.CollectiveSegs

@[expose] public section

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat)

variable {F : FTy → Type} [FloatOps F]
local notation "𝕄" => MT nD τ sig Unit (Elt F) ℕ UU ℕ

variable (m : (ℓ : Loc nD τ sig) → Buf (Elt F) ℓ) (ρ : Dev nD → PrngReg)

/-! ## Into the region and out of it -/

theorem own_facts : Pipeline.OwnSemFacts cfg0.spec own_sem := by decide +kernel
theorem share_full (c : Dev nD) (w : Fin cfg0.W) : (dats m 0 c).share w = fullShare := by unfold Dat.share; split <;> rfl

theorem enter (c : Dev nD) :
    iprop(Pipeline.unscopedRestP Pipeline.Prefetch.none cfg0.spec c (fun b => m ((c : Thread nD τ).loc b)) ∗ levAts L lv
        ∗ Pipeline.launchCred due₀ c ∗ prngReg c (ρ c) ∗ ready (gathered m) c)
      ⊢ |={Set.univ}=> iprop(begin m c ∗ emp) := by
  unfold ready begin
  iintro ⟨-, HL, Hc, -, %K, HR, Hp⟩
  ihave Hc := (credit (F := F) c) $$ Hc
  icases Hc with ⟨Hb, Hv⟩
  imodintro
  isplitl
  · isplitr [HL]
    · iexists K
      isplitl [HR]; · iexact HR
      iapply (hand_of (F := F) c)
      isplitl [Hp]; · iexact Hp
      isplitl [Hb] <;> iassumption
    iexact HL
  · iempintro

/-- The two landing buffers enter as slots, -/
theorem take_rooms (c : Dev nD) : (Pipeline.scopedRest cfg0.spec c : sProp 𝕄) ⊢ iprop(room (F := F) true c ∗ room (F := F) false c) := by
  rw [scopedRest0_eq]
  iintro ⟨⟨%f, Ha⟩, %g, Hb⟩
  isplitl [Ha]
  · iapply (room_of_buffer true c f); rw [show (landM true).view.set = Finset.univ from View.set_whole _]; iexact Ha
  · iapply (room_of_buffer false c g); rw [show (landM false).view.set = Finset.univ from View.set_whole _]; iexact Hb
/-- and leave as buffers. -/
theorem give_rooms (c : Dev nD) : iprop(room (F := F) true c ∗ room (F := F) false c) ⊢ (Pipeline.scopedRest cfg0.spec c : sProp 𝕄) := by
  rw [scopedRest0_eq]
  iintro ⟨Ha, Hb⟩
  ihave Ha := (buffer_of_room true c) $$ Ha
  ihave Hb := (buffer_of_room false c) $$ Hb
  rw [show (landM true).view.set = Finset.univ from View.set_whole _, show (landM false).view.set = Finset.univ from View.set_whole _]
  isplitl [Ha]; · iexact Ha
  iexact Hb

theorem into (c : Dev nD) :
    iprop(begin m c ∗ Pipeline.prefHeld Pipeline.Prefetch.none c (fun _ => fullShare.right) (fun k => k.elim0) ∗ Pipeline.scopedRest cfg0.spec c)
      ⊢ (dats m 0 c).Φ 0 := by
  show _ ⊢ before m c
  unfold before
  iintro ⟨Hs, -, Hr⟩
  isplitl [Hs]; · iexact Hs
  iapply (take_rooms c); iexact Hr

theorem out_of (c : Dev nD) :
    (dats m 0 c).Φ (Fin.last cfg0.N) ⊢ iprop(unscopedSems0 c ∗ Pipeline.ownSems0 own_sem c ∗ Pipeline.scopedRest cfg0.spec c) := by
  show after c ⊢ _
  unfold after done Pipeline.ownSems0 unscopedSems0
  rw [by_end, bigSep_eq_bigSepL_of_eq [SemLoc.reg bsem] (by decide) (by decide), bigSepL_singleton]
  iintro ⟨⟨Hb, Hs, Hv⟩, Hr⟩
  isplitl [Hb]; · iexact Hb
  isplitl [Hs Hv]
  · isplitl [Hs]; · iexact Hs
    iexact Hv
  iapply (give_rooms c); iexact Hr

/-- The staging semaphores are none of the transfers', so they are at the lowest level. -/
theorem lv_staging (c : Dev nD) (q : DmaSem sig) (h : ∀ k, dsem k ≠ q) : lv ((c : Thread nD τ), .dma q) () = 0 := by
  show onSem (fun k => if k.1 then 2 + k.2.2.1.val else 0) 0 q = 0
  unfold onSem
  exact dif_neg fun ⟨k, hk⟩ => h k hk

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (lv_staging c _ (by fin_cases w <;> fin_cases s <;> decide))
    · exact mayWait_zero c _

/-! ## The launch -/

/-- A window's array when the run is over. -/
def final (c : Dev nD) (w : Fin cfg0.W) : Buf (Elt F) ((cfg0.win w).arr.view.loc (c : Thread nD τ)) := (dats m 0 c).arrAt w cfg0.N

set_option maxRecDepth 8000 in
/-- Every fair run of the four devices ends, with each window's array as the region leaves it and every counter zero. -/
theorem launched : θ_run defs (onTc (τ := τ) (main (F := F))) (atStart m ρ)
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl) (hbody := body_kept m) (hne := fun w => by fin_cases w <;> exact Nat.succ_pos _)
    (harr := arr_whole0) (hstage := stage_whole0) (hshare := share_full m) (hdistinct := winFacts0.arr_inj)
    (O₀ := due₀) (howed₀ := fun _ => rfl) (howedN := fun _ => rfl)
    (L := L) (lv := lv) (hL := L_of_ne) (hwaits := waits m)
    (G := minted (gathered m)) (G' := ready (gathered m)) (u₀ := u₀)
    (hu₀ := by
      unfold u₀
      iintro H
      ihave H := (ownU_pair _ _) $$ H
      icases H with ⟨Hs, Hl⟩
      imod (mint (gathered m)) $$ Hl with Hl
      imodintro
      isplitl [Hs] <;> iassumption)
    (hglob := set_up (gathered m)) (hA := fun _ _ => rfl) (hpf := fun _ k => k.elim0)
    (X := begin m) (Y := fun c => unscopedSems0 c) (Z := fun _ => iprop(emp))
    (hX := enter m ρ) (hin := into m) (hout := out_of m)
    (QY := fun c s => ∀ sm : SemLoc sig, sm.isScoped .tc = false → s.sem ((c.tc : Thread nD τ), sm) = 0)
    (hY := fun c s => by
      iintro ⟨Hu, -, Hs⟩
      iapply (Pipeline.unscopedSems0_read (X := unscopedSems0 c) (c := c) fupd_intro s)
      isplitl [Hu] <;> iassumption)
    (hQ := fun _ h hs => ⟨fun c w => (h c).1 w, sem_eq_zero hs fun c => (h c).2.2⟩)

/-! ## What the arrays hold -/

theorem final_arg (c : Dev nD) : final m c (0 : Fin 2) = m ((c : Thread nD τ).loc main_arg0) := (dats (F := F) m 0 c).arrAt_in (0 : Fin 2) rfl _

theorem final_result (c : Dev nD) : final m c (1 : Fin 2) = gathered m := by
  have h : (win0_1.blk (0 : Fin 1)).view.read (Elt F) (final m c (1 : Fin 2)) = gathered m := by
    unfold final
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans h

/-- Every fair run of the four devices ends with each device's argument unchanged, its result the four blocks one below
    the other, and every counter zero. -/
theorem run_main : θ_run defs (onTc (τ := τ) (main (F := F))) (atStart m ρ)
    (fun r => (∀ c : Dev nD, r.2.mem ((c : Thread nD τ).loc main_v1) = gathered m ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_result m c), (h.1 c (0 : Fin 2)).trans (final_arg m c)⟩, h.2⟩) (launched m ρ)

end Cert.Gathered

end
-- ==== Proof.Value.lean ====
/-
# The reference, and the array both end with

The reference returns its argument. Where each device's argument is its block of the reference's, the four blocks one
below the other are the reference's argument again.
-/
module

public import proofs.«01_k».proof.Proof.Run
public import proofs.«01_k».proof.Proof.Gen.ReferenceIdeal
public import Idealize.ShloMosaic.Lib.StableHlo.Run

@[expose] public section

noncomputable section

namespace Cert.Gathered

open Idealize.ShloMosaic Idealize.ShloMosaic.TcCoe Idealize.SL.Sem

/-- The blocks of an array, one below the other, are the array. -/
theorem gathered_blocks {F : FTy → Type} [FloatOps F]
    (m : (ℓ : Loc Cert.KernelIdeal.nD Cert.KernelIdeal.τ Cert.KernelIdeal.sig) → Buf (Elt F) ℓ)
    (v : (⟨2, ![4096, 512]⟩ : Shape).Idx → Elt F .f32)
    (h : ∀ c : Dev Cert.KernelIdeal.nD, block m c = Layout.block ⟨2, ![1024, 512]⟩ ⟨2, ![4096, 512]⟩ 0 4 c v) : gathered m = v := by
  funext i
  unfold gathered
  rw [h]
  refine congrArg v (funext fun b => Fin.ext ?_)
  rcases b with ⟨_ | _ | n, hb⟩
  · show (i 0).val / 1024 * 1024 + (i 0).val % 1024 = (i 0).val; omega
  · rfl
  · exact absurd hb (by simp)

/-- Every fair run of the reference ends with its argument unchanged, and every counter zero. -/
theorem run_reference {F : FTy → Type} [FloatOps F]
    (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD, r.2.mem ((c.tc : Thread _ Cert.ReferenceIdeal.τ).loc Cert.ReferenceIdeal.main_arg0)
          = m ((c.tc : Thread _ Cert.ReferenceIdeal.τ).loc Cert.ReferenceIdeal.main_arg0))
        ∧ r.2.sem = fun _ => 0 :=
  (θ_run _ _ _).mono (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl)
      (fun _ => List.forall_iff_forall_mem.2 fun _ h => absurd h List.not_mem_nil) m ρ)

end Cert.Gathered

end
-- ==== Proof.lean ====
/-
# The certificate

The claims of `Cert.Claim`: the kernel, at bits and at exact values, and the reference run to the end, leave their
arguments as they were and every counter at zero; the kernel's idealization is its own text; and every device's result
is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its idealization have one text, so their body tables are the same, -/
theorem same_bodies : Cert.Kernel.defs₀ (F := Bits) = Cert.KernelIdeal.defs₀ (F := Bits) := by
  unfold Cert.Kernel.defs₀ Cert.KernelIdeal.defs₀
  refine congrArg Defs.onTc ?_
  funext ℓ p
  rcases ℓ with ⟨_ | n, h⟩
  · rfl
  · exact absurd h (by simp)
/-- and with the region's pipeline too. -/
theorem same_defs : Cert.Kernel.defs (F := Bits) = Cert.KernelIdeal.defs (F := Bits) := by
  unfold Cert.Kernel.defs Cert.KernelIdeal.defs
  rw [same_bodies]; rfl

/-- The kernel at bits: the run stated for any float values is its run too. -/
theorem frame_kernel : Cert.quiescent_Kernel := fun m ρ _ => by
  rw [same_defs]
  exact (θ_run Cert.KernelIdeal.defs _ _).mono (fun _ h => ⟨fun c => (h.1 c).2, h.2⟩) (Cert.Gathered.run_main (F := Bits) m ρ)

/-- The kernel at exact values. -/
theorem frame_ideal : Cert.quiescent_KernelIdeal := fun m ρ _ =>
  (θ_run Cert.KernelIdeal.defs _ _).mono (fun _ h => ⟨fun c => (h.1 c).2, h.2⟩) (Cert.Gathered.run_main (F := Ideal) m ρ)

/-- The reference. -/
theorem frame_reference : Cert.quiescent_ReferenceIdeal := fun m ρ _ => Cert.Gathered.run_reference m ρ

/-- Every device's result is the reference's: the whole array. -/
theorem same_result : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (Cert.Gathered.gathered_blocks m _ hm), (h.1 c).2⟩)
      (Cert.Gathered.run_main (F := Ideal) m ρ),
    (θ_run Cert.ReferenceIdeal.defs _ _).mono (fun _ h => ⟨h.1 0, h.1 0⟩) (Cert.Gathered.run_reference m' ρ')⟩

/-- Everything claimed. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
